-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_grid_levels [hPre_grid_levels : Cert.Pre_grid_levels.Facts] (m : (ℓ : Loc Cert.KernelIdeal.nD Cert.KernelIdeal.τ Cert.KernelIdeal.sig) → Buf (Elt Ideal) ℓ) : Prop :=
  ∀ c : Dev Cert.KernelIdeal.nD,
    (Cert.Pre_grid_levels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_grid_levels [hPre_grid_levels : Cert.Pre_grid_levels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_grid_levels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_grid_levels [hKernelIdeal : Cert.KernelIdeal.Facts] [hPre_grid_levels : Cert.Pre_grid_levels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_grid_levels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_grid_levels [hReferenceIdeal : Cert.ReferenceIdeal.Facts] [hPre_grid_levels : Cert.Pre_grid_levels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_grid_levels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_grid_levels [hKernelIdeal : Cert.KernelIdeal.Facts] [hReferenceIdeal : Cert.ReferenceIdeal.Facts] [hPre_grid_levels : Cert.Pre_grid_levels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_grid_levels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_grid_levels : Cert.Pre_grid_levels.Facts),
    quiescent_Kernel (hKernel := hKernel)
    ∧ quiescent_KernelIdeal (hKernelIdeal := hKernelIdeal)
    ∧ quiescent_KernelIdeal_pre_grid_levels (hKernelIdeal := hKernelIdeal) (hPre_grid_levels := hPre_grid_levels)
    ∧ quiescent_ReferenceIdeal (hReferenceIdeal := hReferenceIdeal)
    ∧ quiescent_ReferenceIdeal_pre_grid_levels (hReferenceIdeal := hReferenceIdeal) (hPre_grid_levels := hPre_grid_levels)
    ∧ preserves_Kernel_KernelIdeal
    ∧ algebraic_KernelIdeal_ReferenceIdeal_pre_grid_levels (hKernelIdeal := hKernelIdeal) (hReferenceIdeal := hReferenceIdeal) (hPre_grid_levels := hPre_grid_levels)
-- ==== Pre_grid_levels.lean ====
abbrev S1x128x3072 : Shape := ⟨3, ![1, 128, 3072]⟩
abbrev S8192x96x2 : Shape := ⟨3, ![8192, 96, 2]⟩
abbrev S8192x12 : Shape := ⟨2, ![8192, 12]⟩
abbrev S256x8 : Shape := ⟨2, ![256, 8]⟩
abbrev S_ : Shape := ⟨0, ![]⟩

class Facts : Prop where
  bcast_S_S256x8 : S_.BroadcastsInDim S256x8 (![] : Fin 0 → Fin S256x8.rank)

variable [Facts]

def fn {F : FTy → Type} [FloatOps F] (main_arg0 : FVec F S1x128x3072 .bf16) (main_arg1 : IVec S8192x96x2 32) (main_arg2 : FVec F S8192x12 .f16) (main_arg3 : IVec S256x8 8) : IVec S256x8 1 :=
  let main_c : IVec S_ 8 := constantI S_ 8 8#8
  let main_v0 : IVec S256x8 8 := broadcastInDim S256x8 ![] bcast_S_S256x8 main_c
  let main_v1 : IVec S256x8 1 := cmpi .eq main_arg3 main_v0
  let main_c_0 : IVec S_ 8 := constantI S_ 8 25#8
  let main_v2 : IVec S256x8 8 := broadcastInDim S256x8 ![] bcast_S_S256x8 main_c_0
  let main_v3 : IVec S256x8 1 := cmpi .eq main_arg3 main_v2
  let main_v4 : IVec S256x8 1 := ori main_v1 main_v3
  let main_c_1 : IVec S_ 8 := constantI S_ 8 43#8
  let main_v5 : IVec S256x8 8 := broadcastInDim S256x8 ![] bcast_S_S256x8 main_c_1
  let main_v6 : IVec S256x8 1 := cmpi .eq main_arg3 main_v5
  let main_v7 : IVec S256x8 1 := ori main_v4 main_v6
  main_v7
-- ==== Kernel.lean ====
abbrev S1x128x3072 : Shape := ⟨3, ![1, 128, 3072]⟩
abbrev S8192x96x2 : Shape := ⟨3, ![8192, 96, 2]⟩
abbrev S8192x12 : Shape := ⟨2, ![8192, 12]⟩
abbrev S256x8 : Shape := ⟨2, ![256, 8]⟩
abbrev S64x128x96x2 : Shape := ⟨4, ![64, 128, 96, 2]⟩
abbrev S96x64x2x128 : Shape := ⟨4, ![96, 64, 2, 128]⟩
abbrev S96x32x4x128 : Shape := ⟨4, ![96, 32, 4, 128]⟩
abbrev S128x3072 : Shape := ⟨2, ![128, 3072]⟩
abbrev S12x8192 : Shape := ⟨2, ![12, 8192]⟩
abbrev S8x256 : Shape := ⟨2, ![8, 256]⟩
abbrev S128x8192 : Shape := ⟨2, ![128, 8192]⟩
abbrev S96x1x4x128 : Shape := ⟨4, ![96, 1, 4, 128]⟩
abbrev S12x256 : Shape := ⟨2, ![12, 256]⟩
abbrev S128x256 : Shape := ⟨2, ![128, 256]⟩
abbrev S24x128x128 : Shape := ⟨3, ![24, 128, 128]⟩
abbrev S3x8x128 : Shape := ⟨3, ![3, 8, 128]⟩
abbrev S24x32x128 : Shape := ⟨3, ![24, 32, 128]⟩
abbrev S24x72x128 : Shape := ⟨3, ![24, 72, 128]⟩
abbrev S8x128 : Shape := ⟨2, ![8, 128]⟩
abbrev S1x128 : Shape := ⟨2, ![1, 128]⟩
abbrev S1x8x128 : Shape := ⟨3, ![1, 8, 128]⟩
abbrev S128x128 : Shape := ⟨2, ![128, 128]⟩
abbrev S1x128x128 : Shape := ⟨3, ![1, 128, 128]⟩
abbrev S1x72x128 : Shape := ⟨3, ![1, 72, 128]⟩
abbrev S72x128 : Shape := ⟨2, ![72, 128]⟩
abbrev S1x32x128 : Shape := ⟨3, ![1, 32, 128]⟩
abbrev S32x128 : Shape := ⟨2, ![32, 128]⟩
abbrev S8x128x1 : Shape := ⟨3, ![8, 128, 1]⟩
abbrev S256x128 : Shape := ⟨2, ![256, 128]⟩
abbrev S256x256 : Shape := ⟨2, ![256, 256]⟩
abbrev S384x128 : Shape := ⟨2, ![384, 128]⟩

abbrev nBuf : Space → Nat
  | .hbm => 11
  | .vmem => 12
  | .smem => 0
  | _ => 0

abbrev bufTy : (tb : Table) → Fin (tcTables nBuf tb) → BufTy
  | .hbm, ⟨0, _⟩ => ⟨S1x128x3072, .bf16⟩
  | .hbm, ⟨1, _⟩ => ⟨S8192x96x2, .i32⟩
  | .hbm, ⟨2, _⟩ => ⟨S8192x12, .f16⟩
  | .hbm, ⟨3, _⟩ => ⟨S256x8, .i8⟩
  | .hbm, ⟨4, _⟩ => ⟨S64x128x96x2, .i32⟩
  | .hbm, ⟨5, _⟩ => ⟨S96x64x2x128, .i32⟩
  | .hbm, ⟨6, _⟩ => ⟨S96x32x4x128, .i32⟩
  | .hbm, ⟨7, _⟩ => ⟨S128x3072, .bf16⟩
  | .hbm, ⟨8, _⟩ => ⟨S12x8192, .f16⟩
  | .hbm, ⟨9, _⟩ => ⟨S8x256, .i8⟩
  | .hbm, ⟨10, _⟩ => ⟨S128x8192, .bf16⟩
  | .local _ .vmem, ⟨0, _⟩ => ⟨S128x3072, .bf16⟩
  | .local _ .vmem, ⟨1, _⟩ => ⟨S96x1x4x128, .i32⟩
  | .local _ .vmem, ⟨2, _⟩ => ⟨S96x1x4x128, .i32⟩
  | .local _ .vmem, ⟨3, _⟩ => ⟨S12x256, .f16⟩
  | .local _ .vmem, ⟨4, _⟩ => ⟨S12x256, .f16⟩
  | .local _ .vmem, ⟨5, _⟩ => ⟨S8x256, .i8⟩
  | .local _ .vmem, ⟨6, _⟩ => ⟨S128x256, .bf16⟩
  | .local _ .vmem, ⟨7, _⟩ => ⟨S128x256, .bf16⟩
  | .local _ .vmem, ⟨8, _⟩ => ⟨S24x128x128, .bf16⟩
  | .local _ .vmem, ⟨9, _⟩ => ⟨S3x8x128, .i32⟩
  | .local _ .vmem, ⟨10, _⟩ => ⟨S24x32x128, .i32⟩
  | .local _ .vmem, ⟨11, _⟩ => ⟨S24x72x128, .f32⟩
  | _, _ => ⟨S1x128x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S128x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S96x1x4x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12x256 .f16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x256 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1x128x3072 : Shape := ⟨3, ![1, 128, 3072]⟩
abbrev S8192x96x2 : Shape := ⟨3, ![8192, 96, 2]⟩
abbrev S8192x12 : Shape := ⟨2, ![8192, 12]⟩
abbrev S256x8 : Shape := ⟨2, ![256, 8]⟩
abbrev S8192x96x1 : Shape := ⟨3, ![8192, 96, 1]⟩
abbrev S8192x96 : Shape := ⟨2, ![8192, 96]⟩
abbrev S4 : Shape := ⟨1, ![4]⟩
abbrev S8 : Shape := ⟨1, ![8]⟩
abbrev S_ : Shape := ⟨0, ![]⟩
abbrev S8192x12x1 : Shape := ⟨3, ![8192, 12, 1]⟩
abbrev S8192x12x8 : Shape := ⟨3, ![8192, 12, 8]⟩
abbrev S1x1x4 : Shape := ⟨3, ![1, 1, 4]⟩
abbrev S8192x96x4 : Shape := ⟨3, ![8192, 96, 4]⟩
abbrev S8192x96x4x1 : Shape := ⟨4, ![8192, 96, 4, 1]⟩
abbrev S8192x96x4x8 : Shape := ⟨4, ![8192, 96, 4, 8]⟩
abbrev S1x1x1x8 : Shape := ⟨4, ![1, 1, 1, 8]⟩
abbrev S8192x96x1x1 : Shape := ⟨4, ![8192, 96, 1, 1]⟩
abbrev S128x3072 : Shape := ⟨2, ![128, 3072]⟩
abbrev S8192x3072 : Shape := ⟨2, ![8192, 3072]⟩
abbrev S128x8192 : Shape := ⟨2, ![128, 8192]⟩

abbrev nBuf : Space → Nat
  | .hbm => 94
  | .vmem => 2
  | .smem => 0
  | _ => 0

abbrev bufTy : (tb : Table) → Fin (tcTables nBuf tb) → BufTy
  | .hbm, ⟨0, _⟩ => ⟨S1x128x3072, .bf16⟩
  | .hbm, ⟨1, _⟩ => ⟨S8192x96x2, .i32⟩
  | .hbm, ⟨2, _⟩ => ⟨S8192x12, .f16⟩
  | .hbm, ⟨3, _⟩ => ⟨S256x8, .i8⟩
  | .hbm, ⟨4, _⟩ => ⟨S8192x96x1, .i32⟩
  | .hbm, ⟨5, _⟩ => ⟨S8192x96, .i32⟩
  | .hbm, ⟨6, _⟩ => ⟨S8192x96x1, .i32⟩
  | .hbm, ⟨7, _⟩ => ⟨S8192x96, .i32⟩
  | .hbm, ⟨8, _⟩ => ⟨S4, .i32⟩
  | .hbm, ⟨9, _⟩ => ⟨S8, .i32⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S8192x12, .f32⟩
  | .hbm, ⟨14, _⟩ => ⟨S_, .i32⟩
  | .hbm, ⟨15, _⟩ => ⟨S8192x96, .i32⟩
  | .hbm, ⟨16, _⟩ => ⟨S8192x96, .i32⟩
  | .hbm, ⟨17, _⟩ => ⟨S8192x96, .f32⟩
  | .hbm, ⟨18, _⟩ => ⟨S8192x12x1, .f32⟩
  | .hbm, ⟨19, _⟩ => ⟨S8192x12x8, .f32⟩
  | .hbm, ⟨20, _⟩ => ⟨S_, .f32⟩
  | .hbm, ⟨21, _⟩ => ⟨S8192x12x8, .f32⟩
  | .hbm, ⟨22, _⟩ => ⟨S8192x12x8, .f32⟩
  | .hbm, ⟨23, _⟩ => ⟨S8192x12x8, .f32⟩
  | .hbm, ⟨24, _⟩ => ⟨S8192x12x8, .f32⟩
  | .hbm, ⟨25, _⟩ => ⟨S_, .f32⟩
  | .hbm, ⟨26, _⟩ => ⟨S8192x12x8, .f32⟩
  | .hbm, ⟨27, _⟩ => ⟨S8192x12x8, .f32⟩
  | .hbm, ⟨28, _⟩ => ⟨S8192x96, .f32⟩
  | .hbm, ⟨29, _⟩ => ⟨S8192x96x1, .i32⟩
  | .hbm, ⟨30, _⟩ => ⟨S_, .i32⟩
  | .hbm, ⟨31, _⟩ => ⟨S4, .i32⟩
  | .hbm, ⟨32, _⟩ => ⟨S4, .i32⟩
  | .hbm, ⟨33, _⟩ => ⟨S1x1x4, .i32⟩
  | .hbm, ⟨34, _⟩ => ⟨S8192x96x4, .i32⟩
  | .hbm, ⟨35, _⟩ => ⟨S8192x96x4, .i32⟩
  | .hbm, ⟨36, _⟩ => ⟨S8192x96x4, .i32⟩
  | .hbm, ⟨37, _⟩ => ⟨S_, .i32⟩
  | .hbm, ⟨38, _⟩ => ⟨S8192x96x4, .i32⟩
  | .hbm, ⟨39, _⟩ => ⟨S8192x96x4, .i32⟩
  | .hbm, ⟨40, _⟩ => ⟨S8192x96x4, .i32⟩
  | .hbm, ⟨41, _⟩ => ⟨S_, .i32⟩
  | .hbm, ⟨42, _⟩ => ⟨S8192x96x4, .i32⟩
  | .hbm, ⟨43, _⟩ => ⟨S8192x96x4, .i1⟩
  | .hbm, ⟨44, _⟩ => ⟨S_, .i32⟩
  | .hbm, ⟨45, _⟩ => ⟨S8192x96x4, .i32⟩
  | .hbm, ⟨46, _⟩ => ⟨S8192x96x4, .i32⟩
  | .hbm, ⟨47, _⟩ => ⟨S8192x96x4, .i32⟩
  | .hbm, ⟨48, _⟩ => ⟨S8192x96x4x1, .i32⟩
  | .hbm, ⟨49, _⟩ => ⟨S8192x96x4x8, .i8⟩
  | .hbm, ⟨50, _⟩ => ⟨S8192x96x4x8, .i32⟩
  | .hbm, ⟨51, _⟩ => ⟨S8192x96x4x8, .f32⟩
  | .hbm, ⟨52, _⟩ => ⟨S8192x96x1, .i32⟩
  | .hbm, ⟨53, _⟩ => ⟨S_, .i32⟩
  | .hbm, ⟨54, _⟩ => ⟨S4, .i32⟩
  | .hbm, ⟨55, _⟩ => ⟨S4, .i32⟩
  | .hbm, ⟨56, _⟩ => ⟨S1x1x4, .i32⟩
  | .hbm, ⟨57, _⟩ => ⟨S8192x96x4, .i32⟩
  | .hbm, ⟨58, _⟩ => ⟨S8192x96x4, .i32⟩
  | .hbm, ⟨59, _⟩ => ⟨S8192x96x4, .i32⟩
  | .hbm, ⟨60, _⟩ => ⟨S_, .i32⟩
  | .hbm, ⟨61, _⟩ => ⟨S8192x96x4, .i32⟩
  | .hbm, ⟨62, _⟩ => ⟨S8192x96x4, .i32⟩
  | .hbm, ⟨63, _⟩ => ⟨S8192x96x4, .i32⟩
  | .hbm, ⟨64, _⟩ => ⟨S_, .i32⟩
  | .hbm, ⟨65, _⟩ => ⟨S8192x96x4, .i32⟩
  | .hbm, ⟨66, _⟩ => ⟨S8192x96x4, .i32⟩
  | .hbm, ⟨67, _⟩ => ⟨S_, .i32⟩
  | .hbm, ⟨68, _⟩ => ⟨S8192x96x4, .i32⟩
  | .hbm, ⟨69, _⟩ => ⟨S8192x96x4, .i32⟩
  | .hbm, ⟨70, _⟩ => ⟨S8192x96x4, .i32⟩
  | .hbm, ⟨71, _⟩ => ⟨S8192x96x4x1, .i32⟩
  | .hbm, ⟨72, _⟩ => ⟨S1x1x1x8, .i32⟩
  | .hbm, ⟨73, _⟩ => ⟨S8192x96x4x8, .i32⟩
  | .hbm, ⟨74, _⟩ => ⟨S8192x96x4x8, .i32⟩
  | .hbm, ⟨75, _⟩ => ⟨S8192x96x4x8, .i32⟩
  | .hbm, ⟨76, _⟩ => ⟨S_, .i32⟩
  | .hbm, ⟨77, _⟩ => ⟨S8192x96x4x8, .i32⟩
  | .hbm, ⟨78, _⟩ => ⟨S8192x96x4x8, .i1⟩
  | .hbm, ⟨79, _⟩ => ⟨S_, .f32⟩
  | .hbm, ⟨80, _⟩ => ⟨S_, .f32⟩
  | .hbm, ⟨81, _⟩ => ⟨S8192x96x4x8, .f32⟩
  | .hbm, ⟨82, _⟩ => ⟨S8192x96x4x8, .f32⟩
  | .hbm, ⟨83, _⟩ => ⟨S8192x96x4x8, .f32⟩
  | .hbm, ⟨84, _⟩ => ⟨S8192x96x4x8, .f32⟩
  | .hbm, ⟨85, _⟩ => ⟨S8192x96x1x1, .f32⟩
  | .hbm, ⟨86, _⟩ => ⟨S8192x96x4x8, .f32⟩
  | .hbm, ⟨87, _⟩ => ⟨S8192x96x4x8, .f32⟩
  | .hbm, ⟨88, _⟩ => ⟨S8192x96x4x8, .f32⟩
  | .hbm, ⟨89, _⟩ => ⟨S8192x96x4x8, .bf16⟩
  | .hbm, ⟨90, _⟩ => ⟨S128x3072, .bf16⟩
  | .hbm, ⟨91, _⟩ => ⟨S8192x3072, .bf16⟩
  | .hbm, ⟨92, _⟩ => ⟨S128x8192, .f32⟩
  | .hbm, ⟨93, _⟩ => ⟨S128x8192, .bf16⟩
  | .local _ .vmem, ⟨0, _⟩ => ⟨S8192x12, .f16⟩
  | .local _ .vmem, ⟨1, _⟩ => ⟨S8192x12, .f32⟩
  | _, _ => ⟨S1x128x3072, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c_8 : Ref sig .tc := ⟨.hbm, 64, rfl⟩
abbrev main_v50 : Ref sig .tc := ⟨.hbm, 65, rfl⟩
abbrev main_v51 : Ref sig .tc := ⟨.hbm, 66, rfl⟩
abbrev main_c_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c_10 : Ref sig .tc := ⟨.hbm, 76, rfl⟩
abbrev main_v60 : Ref sig .tc := ⟨.hbm, 77, rfl⟩
abbrev main_v61 : Ref sig .tc := ⟨.hbm, 78, rfl⟩
abbrev main_cst_11 : Ref sig .tc := ⟨.hbm, 79, rfl⟩
abbrev main_cst_12 : Ref sig .tc := ⟨.hbm, 80, rfl⟩
abbrev main_call0_v0 : Ref sig .tc := ⟨.hbm, 81, rfl⟩
abbrev main_call0_v1 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8192x12 .f16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelInit.lean ====
module

public import proofs.«01_k».proof.Proof.Gen.Kernel.Skeleton
public import Idealize.ShloMosaic.Lib.Claim
public import Idealize.ShloMosaic.Lib.Mxu.Lemmas

@[expose] public section

set_option maxRecDepth 65536

noncomputable section

/-! The first step's preparation of the scratch buffers. -/

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of memref `M` on core `c`. -/
abbrev Bf (c : Dev nD) {sp : Space} {S : Shape} {e : EltTy} (M : Memref sig .tc sp S e) : Type := Buf (Elt F) (M.view.loc (c : Thread nD τ))
/-- Memref `M` held whole on core `c`, with contents `f`. -/
abbrev pt (c : Dev nD) {sp : Space} {S : Shape} {e : EltTy} (M : Memref sig .tc sp S e) (f : Bf (F := F) c M) : sProp 𝕄 :=
  M.view.loc (c : Thread nD τ) ↦{fullShare} f

/-- Whether a grid step is the first. -/
abbrev isFirst (i : grid0.Coords) : Prop :=
  Scalar.cmpi .ne (Scalar.extui (Scalar.cmpi .eq (BitVec.ofNat 32 (i 0).val) 0#32) : BitVec 32) 0#32 = 1#1

/-- The scratch copy of the activations, one block of 128 columns per unit. -/
abbrev xsM : Memref sig .tc .vmem S24x128x128 .bf16 := Memref.whole cc0_scratch0
/-- The scratch tables: packed digit pairs, packed signs, shift amounts. -/
abbrev tabM : Memref sig .tc .vmem S3x8x128 .i32 := Memref.whole cc0_scratch1
/-- The scratch codes: one packed word per unit, eight-entry field and column. -/
abbrev codeM : Memref sig .tc .vmem S24x32x128 .i32 := Memref.whole cc0_scratch2
/-- The scratch levels: nine rows per sub-block. -/
abbrev levM : Memref sig .tc .vmem S24x72x128 .f32 := Memref.whole cc0_scratch3

/-- What the body does at the first step only: fill the tables, clear the codes and levels, copy the activations
    and empty the accumulators. -/
def initProg (i : grid0.Coords) (arg1 : Memref sig .tc .vmem S128x3072 .bf16) (harg1 : arg1.IsWhole) (arg2 : Memref sig .tc .vmem S96x1x4x128 .i32) (harg2 : arg2.IsWhole) (arg3 : Memref sig .tc .vmem S12x256 .f16) (harg3 : arg3.IsWhole) (arg4 : Memref sig .tc .vmem S8x256 .i8) (harg4 : arg4.IsWhole) (arg5 : Memref sig .tc .vmem S128x256 .bf16) (harg5 : arg5.IsWhole) (arg6 : Memref sig .tc .vmem S24x128x128 .bf16) (harg6 : arg6.IsWhole) (arg7 : Memref sig .tc .vmem S3x8x128 .i32) (harg7 : arg7.IsWhole) (arg8 : Memref sig .tc .vmem S24x32x128 .i32) (harg8 : arg8.IsWhole) (arg9 : Memref sig .tc .vmem S24x72x128 .f32) (harg9 : arg9.IsWhole) :
    Prog (TpuEff nD τ sig (Elt F) Λ₀ .tc) (Mxu F) := do
  have k0_mxu1 : Mxu F := Mxu.init
  let ⟨v11017_r0, v11040_r0, v11045_r0, v11047_r0⟩ : Σ' (v11017_r0 : IVec S8x128 32) (v11040_r0 : IVec S8x128 32) (v11045_r0 : IVec S8x128 32), IVec S8x128 32 ← k0_part1 i arg1 harg1 arg2 harg2 arg3 harg3 arg4 harg4 arg5 harg5 arg6 harg6 arg7 harg7 arg8 harg8 arg9 harg9
  let ⟨v11093_r0, v11094_r0⟩ : Σ' (v11093_r0 : IVec S8x128 32), Vec F S1x8x128 .i32 ← k0_part2 i arg1 harg1 arg2 harg2 arg3 harg3 arg4 harg4 arg5 harg5 arg6 harg6 arg7 harg7 arg8 harg8 arg9 harg9 v11017_r0 v11040_r0 v11045_r0 v11047_r0
  let v11121_r0 : FVec F S128x128 .bf16 ← k0_part3 i arg1 harg1 arg2 harg2 arg3 harg3 arg4 harg4 arg5 harg5 arg6 harg6 arg7 harg7 arg8 harg8 arg9 harg9 v11093_r0 v11094_r0
  k0_part4 i arg1 harg1 arg2 harg2 arg3 harg3 arg4 harg4 arg5 harg5 arg6 harg6 arg7 harg7 arg8 harg8 arg9 harg9 v11121_r0
  let v11176_r0 : FVec F S128x128 .bf16 ← k0_part5 i arg1 harg1 arg2 harg2 arg3 harg3 arg4 harg4 arg5 harg5 arg6 harg6 arg7 harg7 arg8 harg8 arg9 harg9
  let v11204_r0 : FVec F S1x128x128 .bf16 ← k0_part6 i arg1 harg1 arg2 harg2 arg3 harg3 arg4 harg4 arg5 harg5 arg6 harg6 arg7 harg7 arg8 harg8 arg9 harg9 v11176_r0
  Prog.lift (.store arg6 (Rect.unit (s := S24x128x128) ![19, 0, 0] S1x128x128.size inb_S24x128x128_S1x128x128_19_0_0) v11204_r0 Finset.univ (View.stores_vmem h_S1x128x128 (harg6.storeExact_slice rfl _ packedbf16_S24x128x128_S1x128x128_19_0_0) (fun _ => rfl)) (.inl rfl))
  let v11205_r0 : Vec F S128x128 .bf16 ← Prog.lift (.load arg1 (Rect.unit (s := S128x3072) ![0, 2560] S128x128.size inb_S128x3072_S128x128_0_2560).toLoadRect (View.loadsAt_vmem h_S128x128))
  let v11207_r0 : Vec F S1x128x128 .bf16 ← Prog.lift (.load arg6 (Rect.unit (s := S24x128x128) ![20, 0, 0] S1x128x128.size inb_S24x128x128_S1x128x128_20_0_0).toLoadRect (View.loadsAt_vmem h_S1x128x128))
  Prog.lift (.store arg6 (Rect.unit (s := S24x128x128) ![20, 0, 0] S1x128x128.size inb_S24x128x128_S1x128x128_20_0_0) (k0_pay32 v11205_r0) Finset.univ (View.stores_vmem h_S1x128x128 (harg6.storeExact_slice rfl _ packedbf16_S24x128x128_S1x128x128_20_0_0) (fun _ => rfl)) (.inl rfl))
  let v11210_r0 : Vec F S128x128 .bf16 ← Prog.lift (.load arg1 (Rect.unit (s := S128x3072) ![0, 2688] S128x128.size inb_S128x3072_S128x128_0_2688).toLoadRect (View.loadsAt_vmem h_S128x128))
  let v11212_r0 : Vec F S1x128x128 .bf16 ← Prog.lift (.load arg6 (Rect.unit (s := S24x128x128) ![21, 0, 0] S1x128x128.size inb_S24x128x128_S1x128x128_21_0_0).toLoadRect (View.loadsAt_vmem h_S1x128x128))
  Prog.lift (.store arg6 (Rect.unit (s := S24x128x128) ![21, 0, 0] S1x128x128.size inb_S24x128x128_S1x128x128_21_0_0) (k0_pay33 v11210_r0) Finset.univ (View.stores_vmem h_S1x128x128 (harg6.storeExact_slice rfl _ packedbf16_S24x128x128_S1x128x128_21_0_0) (fun _ => rfl)) (.inl rfl))
  let v11215_r0 : Vec F S128x128 .bf16 ← Prog.lift (.load arg1 (Rect.unit (s := S128x3072) ![0, 2816] S128x128.size inb_S128x3072_S128x128_0_2816).toLoadRect (View.loadsAt_vmem h_S128x128))
  let v11217_r0 : Vec F S1x128x128 .bf16 ← Prog.lift (.load arg6 (Rect.unit (s := S24x128x128) ![22, 0, 0] S1x128x128.size inb_S24x128x128_S1x128x128_22_0_0).toLoadRect (View.loadsAt_vmem h_S1x128x128))
  Prog.lift (.store arg6 (Rect.unit (s := S24x128x128) ![22, 0, 0] S1x128x128.size inb_S24x128x128_S1x128x128_22_0_0) (k0_pay34 v11215_r0) Finset.univ (View.stores_vmem h_S1x128x128 (harg6.storeExact_slice rfl _ packedbf16_S24x128x128_S1x128x128_22_0_0) (fun _ => rfl)) (.inl rfl))
  let v11220_r0 : Vec F S128x128 .bf16 ← Prog.lift (.load arg1 (Rect.unit (s := S128x3072) ![0, 2944] S128x128.size inb_S128x3072_S128x128_0_2944).toLoadRect (View.loadsAt_vmem h_S128x128))
  let v11222_r0 : Vec F S1x128x128 .bf16 ← Prog.lift (.load arg6 (Rect.unit (s := S24x128x128) ![23, 0, 0] S1x128x128.size inb_S24x128x128_S1x128x128_23_0_0).toLoadRect (View.loadsAt_vmem h_S1x128x128))
  Prog.lift (.store arg6 (Rect.unit (s := S24x128x128) ![23, 0, 0] S1x128x128.size inb_S24x128x128_S1x128x128_23_0_0) (k0_pay35 v11220_r0) Finset.univ (View.stores_vmem h_S1x128x128 (harg6.storeExact_slice rfl _ packedbf16_S24x128x128_S1x128x128_23_0_0) (fun _ => rfl)) (.inl rfl))
  have v11225_r0 : FVec F S128x256 .f32 := k0_mxu1.read 0 0 fits_0_128
  have k0_mxu3 : Mxu F := k0_mxu1.pop 0 0 128 fits_0_128
  have v11226_r0 : FVec F S128x256 .f32 := k0_mxu3.read 1 0 fits_0_128
  have k0_mxu4 : Mxu F := k0_mxu3.pop 1 0 128 fits_0_128
  pure k0_mxu4

/-- The first conditional of the body: the preparation at the first step, nothing at any other. -/
def prepProg (i : grid0.Coords) (arg1 : Memref sig .tc .vmem S128x3072 .bf16) (harg1 : arg1.IsWhole) (arg2 : Memref sig .tc .vmem S96x1x4x128 .i32) (harg2 : arg2.IsWhole) (arg3 : Memref sig .tc .vmem S12x256 .f16) (harg3 : arg3.IsWhole) (arg4 : Memref sig .tc .vmem S8x256 .i8) (harg4 : arg4.IsWhole) (arg5 : Memref sig .tc .vmem S128x256 .bf16) (harg5 : arg5.IsWhole) (arg6 : Memref sig .tc .vmem S24x128x128 .bf16) (harg6 : arg6.IsWhole) (arg7 : Memref sig .tc .vmem S3x8x128 .i32) (harg7 : arg7.IsWhole) (arg8 : Memref sig .tc .vmem S24x32x128 .i32) (harg8 : arg8.IsWhole) (arg9 : Memref sig .tc .vmem S24x72x128 .f32) (harg9 : arg9.IsWhole) :
    Prog (TpuEff nD τ sig (Elt F) Λ₀ .tc) (Mxu F) :=
  if Scalar.cmpi .ne (Scalar.extui (Scalar.cmpi .eq (BitVec.ofNat 32 (i 0).val) 0#32) : BitVec 32) 0#32 = 1#1
  then initProg i arg1 harg1 arg2 harg2 arg3 harg3 arg4 harg4 arg5 harg5 arg6 harg6 arg7 harg7 arg8 harg8 arg9 harg9 else pure Mxu.init

/-- What follows the conditional in its part of the body. -/
def restProg (i : grid0.Coords) (arg1 : Memref sig .tc .vmem S128x3072 .bf16) (harg1 : arg1.IsWhole) (arg2 : Memref sig .tc .vmem S96x1x4x128 .i32) (harg2 : arg2.IsWhole) (arg3 : Memref sig .tc .vmem S12x256 .f16) (harg3 : arg3.IsWhole) (arg4 : Memref sig .tc .vmem S8x256 .i8) (harg4 : arg4.IsWhole) (arg5 : Memref sig .tc .vmem S128x256 .bf16) (harg5 : arg5.IsWhole) (arg6 : Memref sig .tc .vmem S24x128x128 .bf16) (harg6 : arg6.IsWhole) (arg7 : Memref sig .tc .vmem S3x8x128 .i32) (harg7 : arg7.IsWhole) (arg8 : Memref sig .tc .vmem S24x32x128 .i32) (harg8 : arg8.IsWhole) (arg9 : Memref sig .tc .vmem S24x72x128 .f32) (harg9 : arg9.IsWhole) (k0_mxu2 : Mxu F) :
    Prog (TpuEff nD τ sig (Elt F) Λ₀ .tc) (Σ' (k0_mxu2 : Mxu F) (v7_r0 : FVec F S12x256 .f32) (v8_r0 : IVec S8x128 32) (v10_r0 : IVec S8x128 32) (v13_r0 : Vec F S8x128 .f32) (v21_r0 : FVec F S8x128 .f32), FVec F S8x128 .f32) := do
  let v3_r0 : Vec F S12x256 .f16 ← Prog.lift (.load arg3 (Rect.unit (s := S12x256) ![0, 0] S12x256.size inb_S12x256_S12x256_0_0).toLoadRect (View.loadsAt_vmem h_S12x256))
  have v8_r0 : IVec S8x128 32 := iota .tc S8x128 32 [0] iota_S8x128_d0_w32
  let v9_r0 : Vec F S1x8x128 .i32 ← Prog.lift (.load arg7 (Rect.unit (s := S3x8x128) ![2, 0, 0] S1x8x128.size inb_S3x8x128_S1x8x128_2_0_0).toLoadRect (View.loadsAt_vmem h_S1x8x128))
  let v11_r0 : Memref sig .tc .vmem S1x72x128 .f32 := arg9.slice (Rect.unit (s := S24x72x128) ![0, 0, 0] S1x72x128.size inb_S24x72x128_S1x72x128_0_0_0) (fun _ => rfl)
  let v12_r0 : Memref sig .tc .vmem S72x128 .f32 := v11_r0.squeeze S72x128 squeezes_S1x72x128_S72x128
  let v13_r0 : Vec F S8x128 .f32 ← Prog.lift (.load v12_r0 (Rect.unit (s := S72x128) ![0, 0] S8x128.size inb_S72x128_S8x128_0_0).toLoadRect (View.loadsAt_vmem h_S8x128))
  let v14_r0 : Memref sig .tc .vmem S1x32x128 .i32 := arg8.slice (Rect.unit (s := S24x32x128) ![0, 0, 0] S1x32x128.size inb_S24x32x128_S1x32x128_0_0_0) (fun _ => rfl)
  let v15_r0 : Memref sig .tc .vmem S32x128 .i32 := v14_r0.squeeze S32x128 squeezes_S1x32x128_S32x128
  let v16_r0 : Vec F S8x128 .i32 ← Prog.lift (.load v15_r0 (⟨![0, 0], S8x128.size, ![0, 1], inb_S32x128_S8x128_0_0_s_0_1⟩ : LoadRect S32x128) (View.loadsAt_vmem h_S8x128))
  let v22_r0 : Memref sig .tc .vmem S1x32x128 .i32 := arg8.slice (Rect.unit (s := S24x32x128) ![0, 0, 0] S1x32x128.size inb_S24x32x128_S1x32x128_0_0_0) (fun _ => rfl)
  let v23_r0 : Memref sig .tc .vmem S32x128 .i32 := v22_r0.squeeze S32x128 squeezes_S1x32x128_S32x128
  let v24_r0 : Vec F S8x128 .i32 ← Prog.lift (.load v23_r0 (⟨![8, 0], S8x128.size, ![0, 1], inb_S32x128_S8x128_8_0_s_0_1⟩ : LoadRect S32x128) (View.loadsAt_vmem h_S8x128))
  pure ⟨k0_mxu2, k0_pay36 v3_r0, v8_r0, k0_pay37 v9_r0, v13_r0, k0_pay38 v9_r0 v13_r0 v16_r0, k0_pay39 v9_r0 v13_r0 v24_r0⟩

/-- The part holding the conditional is the conditional, then the rest. -/
theorem k0_part7_split (i : grid0.Coords) (arg1 : Memref sig .tc .vmem S128x3072 .bf16) (harg1 : arg1.IsWhole) (arg2 : Memref sig .tc .vmem S96x1x4x128 .i32) (harg2 : arg2.IsWhole) (arg3 : Memref sig .tc .vmem S12x256 .f16) (harg3 : arg3.IsWhole) (arg4 : Memref sig .tc .vmem S8x256 .i8) (harg4 : arg4.IsWhole) (arg5 : Memref sig .tc .vmem S128x256 .bf16) (harg5 : arg5.IsWhole) (arg6 : Memref sig .tc .vmem S24x128x128 .bf16) (harg6 : arg6.IsWhole) (arg7 : Memref sig .tc .vmem S3x8x128 .i32) (harg7 : arg7.IsWhole) (arg8 : Memref sig .tc .vmem S24x32x128 .i32) (harg8 : arg8.IsWhole) (arg9 : Memref sig .tc .vmem S24x72x128 .f32) (harg9 : arg9.IsWhole) :
    k0_part7 (F := F) i arg1 harg1 arg2 harg2 arg3 harg3 arg4 harg4 arg5 harg5 arg6 harg6 arg7 harg7 arg8 harg8 arg9 harg9 = prepProg i arg1 harg1 arg2 harg2 arg3 harg3 arg4 harg4 arg5 harg5 arg6 harg6 arg7 harg7 arg8 harg8 arg9 harg9 >>= restProg i arg1 harg1 arg2 harg2 arg3 harg3 arg4 harg4 arg5 harg5 arg6 harg6 arg7 harg7 arg8 harg8 arg9 harg9 := by
  rw [k0_part7_eq_skeleton]
  unfold k0_part7_skel prepProg
  dsimp only
  split
  · simp only [initProg, bind_assoc, pure_bind]; rfl
  · rfl

/-- Emptying both fresh accumulators leaves the matrix unit fresh. -/
theorem pop_pop_init : (((Mxu.init : Mxu F).pop 0 0 128 fits_0_128).pop 1 0 128 fits_0_128) = Mxu.init := by
  have h : ∀ q : Fin 2, (Mxu.init : Mxu F).pop q 0 128 fits_0_128 = Mxu.init := fun q => by
    unfold Mxu.pop Mxu.init; congr 1 <;> (funext; simp)
  rw [h, h]

/-- The first step's preparation: the contents it leaves in the four scratch buffers, WITH the proof that it runs
    from any contents of them and leaves the matrix unit fresh. -/
def initRun (c : Dev nD) (i : grid0.Coords)
    (M1 : Memref sig .tc .vmem S128x3072 .bf16) (h1 : M1.IsWhole) (M2 : Memref sig .tc .vmem S96x1x4x128 .i32) (h2 : M2.IsWhole)
    (M3 : Memref sig .tc .vmem S12x256 .f16) (h3 : M3.IsWhole) (M4 : Memref sig .tc .vmem S8x256 .i8) (h4 : M4.IsWhole)
    (M5 : Memref sig .tc .vmem S128x256 .bf16) (h5 : M5.IsWhole)
    (f1 : Bf (F := F) c M1) (f4 : Bf (F := F) c M4) :
    { W : Bf (F := F) c xsM × Bf (F := F) c tabM × Bf (F := F) c codeM × Bf (F := F) c levM //
      ∀ (f6 : Bf (F := F) c xsM) (f7 : Bf (F := F) c tabM) (f8 : Bf (F := F) c codeM) (f9 : Bf (F := F) c levM) (E : Set ℕ) (Q : Mxu F → sProp 𝕄),
        iprop(pt c M1 f1 ∗ pt c M4 f4 ∗ pt c xsM f6 ∗ pt c tabM f7 ∗ pt c codeM f8 ∗ pt c levM f9
          ∗ (iprop(pt c M1 f1 ∗ pt c M4 f4 ∗ pt c xsM W.1 ∗ pt c tabM W.2.1 ∗ pt c codeM W.2.2.1 ∗ pt c levM W.2.2.2) -∗ Q Mxu.init))
        ⊢ wp frame (wpE (defs₀ (F := F)) Variants.none c none) E
            (initProg i M1 h1 M2 h2 M3 h3 M4 h4 M5 h5 xsM (Memref.isWhole_whole _) tabM (Memref.isWhole_whole _) codeM (Memref.isWhole_whole _) levM (Memref.isWhole_whole _)) Q } := by
  refine ⟨⟨?_, ?_, ?_, ?_⟩, fun f6 f7 f8 f9 E Q => ?run⟩
  case run =>
    iintro ⟨H1, H4, H6, H7, H8, H9, Hk⟩
    unfold initProg
    set_option sl_exec.squeezeSlice true in
    sl_exec!
    sl_step
    rw [show initRun.sl.k0_mxu4 (F := F) = Mxu.init from pop_pop_init]
    iapply Hk
    isplitl [H1]; · iexact H1
    isplitl [H4]; · iexact H4
    isplitl [H6]; · iexact H6
    isplitl [H7]; · iexact H7
    isplitl [H8]; · iexact H8
    iexact H9

end Cert.Kernel.Body

end
-- ==== Proof.KernelRun.lean ====
module

public import proofs.«01_k».proof.Proof.KernelInit

@[expose] public section

set_option maxRecDepth 65536

noncomputable section

/-! The body at a grid step, run once at symbolic operands. -/

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body at a step, its first conditional having left the scratch at `s6 … s9`: the contents it leaves in the result's buffer,
    the codes and the levels, WITH the proof that it runs to its return, handing back everything else as it was. -/
def run (c : Dev nD) (i : grid0.Coords)
    (M1 : Memref sig .tc .vmem S128x3072 .bf16) (h1 : M1.IsWhole) (M2 : Memref sig .tc .vmem S96x1x4x128 .i32) (h2 : M2.IsWhole)
    (M3 : Memref sig .tc .vmem S12x256 .f16) (h3 : M3.IsWhole) (M4 : Memref sig .tc .vmem S8x256 .i8) (h4 : M4.IsWhole)
    (M5 : Memref sig .tc .vmem S128x256 .bf16) (h5 : M5.IsWhole)
    (f1 : Bf (F := F) c M1) (f2 : Bf (F := F) c M2) (f3 : Bf (F := F) c M3) (f4 : Bf (F := F) c M4)
    (s6 : Bf (F := F) c xsM) (s7 : Bf (F := F) c tabM) (s8 : Bf (F := F) c codeM) (s9 : Bf (F := F) c levM) :
    { W : Bf (F := F) c M5 × Bf (F := F) c codeM × Bf (F := F) c levM //
      ∀ (f5 : Bf (F := F) c M5) (f6 : Bf (F := F) c xsM) (f7 : Bf (F := F) c tabM) (f8 : Bf (F := F) c codeM) (f9 : Bf (F := F) c levM)
        (E : Set ℕ) (Q : PUnit → sProp 𝕄)
        (_ : ∀ R : Mxu F → sProp 𝕄, iprop(pt c M1 f1 ∗ pt c M4 f4 ∗ pt c xsM f6 ∗ pt c tabM f7 ∗ pt c codeM f8 ∗ pt c levM f9
            ∗ (iprop(pt c M1 f1 ∗ pt c M4 f4 ∗ pt c xsM s6 ∗ pt c tabM s7 ∗ pt c codeM s8 ∗ pt c levM s9) -∗ R Mxu.init))
          ⊢ wp frame (wpE (defs₀ (F := F)) Variants.none c none) E (prepProg i M1 h1 M2 h2 M3 h3 M4 h4 M5 h5 xsM (Memref.isWhole_whole _) tabM (Memref.isWhole_whole _) codeM (Memref.isWhole_whole _) levM (Memref.isWhole_whole _)) R),
        iprop(pt c M1 f1 ∗ pt c M2 f2 ∗ pt c M3 f3 ∗ pt c M4 f4 ∗ pt c M5 f5 ∗ pt c xsM f6 ∗ pt c tabM f7 ∗ pt c codeM f8 ∗ pt c levM f9
          ∗ (iprop(pt c M1 f1 ∗ pt c M2 f2 ∗ pt c M3 f3 ∗ pt c M4 f4 ∗ pt c M5 W.1 ∗ pt c xsM s6 ∗ pt c tabM s7 ∗ pt c codeM W.2.1 ∗ pt c levM W.2.2) -∗ Q ⟨⟩))
        ⊢ wp frame (wpE (defs₀ (F := F)) Variants.none c none) E
            (cc0_iq2_xxs_matmul i M1 h1 M2 h2 M3 h3 M4 h4 M5 h5 xsM (Memref.isWhole_whole _) tabM (Memref.isWhole_whole _) codeM (Memref.isWhole_whole _) levM (Memref.isWhole_whole _)) Q } := by
  refine ⟨⟨?_, ?_, ?_⟩, fun f5 f6 f7 f8 f9 E Q hprep => ?run⟩
  case run =>
    rw [cc0_iq2_xxs_matmul_eq_skeleton]
    unfold cc0_iq2_xxs_matmul_skel
    rw [wp_bind, k0_part319_eq_skeleton]
    unfold k0_part319_skel
    rw [wp_bind, k0_part7_split, wp_bind]
    iintro ⟨H1, H2, H3, H4, H5, H6, H7, H8, H9, Hk⟩
    iapply (hprep _)
    isplitl [H1]; · iexact H1
    isplitl [H4]; · iexact H4
    isplitl [H6]; · iexact H6
    isplitl [H7]; · iexact H7
    isplitl [H8]; · iexact H8
    isplitl [H9]; · iexact H9
    iintro ⟨H1, H4, H6, H7, H8, H9⟩
    rw [← wp_bind, ← wp_bind]
    clear hprep
    unfold restProg
    set_option sl_exec.squeezeSlice true in
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end Cert.Kernel.Body

end
-- ==== Proof.KernelFrame.lean ====
module

public import proofs.«01_k».proof.Proof.KernelRun
public import proofs.«01_k».proof.Proof.Gen.Kernel.Frame
public import Idealize.ShloMosaic.Lib.Pipeline.Frame

@[expose] public section

set_option maxRecDepth 65536

noncomputable section

/-! The frame of the kernel: it runs to its end, its arguments unchanged and every semaphore at zero. The result's
    window is forgotten here, nothing being said of what the body leaves in it. -/

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Step

variable (c : Dev nD) (i : grid0.Coords)
    (M1 : Memref sig .tc .vmem S128x3072 .bf16) (h1 : M1.IsWhole) (M2 : Memref sig .tc .vmem S96x1x4x128 .i32) (h2 : M2.IsWhole)
    (M3 : Memref sig .tc .vmem S12x256 .f16) (h3 : M3.IsWhole) (M4 : Memref sig .tc .vmem S8x256 .i8) (h4 : M4.IsWhole)
    (M5 : Memref sig .tc .vmem S128x256 .bf16) (h5 : M5.IsWhole)
    (f1 : Bf (F := F) c M1) (f2 : Bf (F := F) c M2) (f3 : Bf (F := F) c M3) (f4 : Bf (F := F) c M4)

/-- At the first step the conditional prepares the scratch as `initRun` says. -/
theorem prep_first (hi : isFirst i) (f6 : Bf (F := F) c xsM) (f7 : Bf (F := F) c tabM) (f8 : Bf (F := F) c codeM) (f9 : Bf (F := F) c levM)
    (E : Set ℕ) (R : Mxu F → sProp 𝕄) :
    iprop(pt c M1 f1 ∗ pt c M4 f4 ∗ pt c xsM f6 ∗ pt c tabM f7 ∗ pt c codeM f8 ∗ pt c levM f9
      ∗ (iprop(pt c M1 f1 ∗ pt c M4 f4 ∗ pt c xsM (initRun c i M1 h1 M2 h2 M3 h3 M4 h4 M5 h5 f1 f4).1.1
          ∗ pt c tabM (initRun c i M1 h1 M2 h2 M3 h3 M4 h4 M5 h5 f1 f4).1.2.1
          ∗ pt c codeM (initRun c i M1 h1 M2 h2 M3 h3 M4 h4 M5 h5 f1 f4).1.2.2.1
          ∗ pt c levM (initRun c i M1 h1 M2 h2 M3 h3 M4 h4 M5 h5 f1 f4).1.2.2.2) -∗ R Mxu.init))
    ⊢ wp frame (wpE (defs₀ (F := F)) Variants.none c none) E (prepProg i M1 h1 M2 h2 M3 h3 M4 h4 M5 h5 xsM (Memref.isWhole_whole _) tabM (Memref.isWhole_whole _) codeM (Memref.isWhole_whole _) levM (Memref.isWhole_whole _)) R := by
  unfold prepProg
  rw [if_pos hi]
  exact (initRun c i M1 h1 M2 h2 M3 h3 M4 h4 M5 h5 f1 f4).2 f6 f7 f8 f9 E R

/-- At a later step the conditional leaves the scratch as it was. -/
theorem prep_later (hi : ¬ isFirst i) (f6 : Bf (F := F) c xsM) (f7 : Bf (F := F) c tabM) (f8 : Bf (F := F) c codeM) (f9 : Bf (F := F) c levM)
    (E : Set ℕ) (R : Mxu F → sProp 𝕄) :
    iprop(pt c M1 f1 ∗ pt c M4 f4 ∗ pt c xsM f6 ∗ pt c tabM f7 ∗ pt c codeM f8 ∗ pt c levM f9
      ∗ (iprop(pt c M1 f1 ∗ pt c M4 f4 ∗ pt c xsM f6 ∗ pt c tabM f7 ∗ pt c codeM f8 ∗ pt c levM f9) -∗ R Mxu.init))
    ⊢ wp frame (wpE (defs₀ (F := F)) Variants.none c none) E (prepProg i M1 h1 M2 h2 M3 h3 M4 h4 M5 h5 xsM (Memref.isWhole_whole _) tabM (Memref.isWhole_whole _) codeM (Memref.isWhole_whole _) levM (Memref.isWhole_whole _)) R := by
  unfold prepProg
  rw [if_neg hi]
  iintro ⟨H1, H4, H6, H7, H8, H9, Hk⟩
  sl_step
  iapply Hk
  isplitl [H1]; · iexact H1
  isplitl [H4]; · iexact H4
  isplitl [H6]; · iexact H6
  isplitl [H7]; · iexact H7
  isplitl [H8]; · iexact H8
  iexact H9

/-- The body at any step, from any contents: it runs to its return, the inputs' buffers unchanged, every other buffer at
    some contents. -/
theorem step_some (f5 : Bf (F := F) c M5) (f6 : Bf (F := F) c xsM) (f7 : Bf (F := F) c tabM) (f8 : Bf (F := F) c codeM) (f9 : Bf (F := F) c levM)
    (E : Set ℕ) (Q : PUnit → sProp 𝕄) :
    iprop(pt c M1 f1 ∗ pt c M2 f2 ∗ pt c M3 f3 ∗ pt c M4 f4 ∗ pt c M5 f5 ∗ pt c xsM f6 ∗ pt c tabM f7 ∗ pt c codeM f8 ∗ pt c levM f9
      ∗ (iprop(pt c M1 f1 ∗ pt c M2 f2 ∗ pt c M3 f3 ∗ pt c M4 f4 ∗ (∃ g, pt c M5 g)
          ∗ (∃ g, pt c xsM g) ∗ (∃ g, pt c tabM g) ∗ (∃ g, pt c codeM g) ∗ (∃ g, pt c levM g)) -∗ Q ⟨⟩))
    ⊢ wp frame (wpE (defs₀ (F := F)) Variants.none c none) E
        (cc0_iq2_xxs_matmul i M1 h1 M2 h2 M3 h3 M4 h4 M5 h5 xsM (Memref.isWhole_whole _) tabM (Memref.isWhole_whole _) codeM (Memref.isWhole_whole _) levM (Memref.isWhole_whole _)) Q := by
  have key : ∃ (s6 : Bf (F := F) c xsM) (s7 : Bf (F := F) c tabM) (s8 : Bf (F := F) c codeM) (s9 : Bf (F := F) c levM),
      ∀ R : Mxu F → sProp 𝕄, iprop(pt c M1 f1 ∗ pt c M4 f4 ∗ pt c xsM f6 ∗ pt c tabM f7 ∗ pt c codeM f8 ∗ pt c levM f9
            ∗ (iprop(pt c M1 f1 ∗ pt c M4 f4 ∗ pt c xsM s6 ∗ pt c tabM s7 ∗ pt c codeM s8 ∗ pt c levM s9) -∗ R Mxu.init))
          ⊢ wp frame (wpE (defs₀ (F := F)) Variants.none c none) E (prepProg i M1 h1 M2 h2 M3 h3 M4 h4 M5 h5 xsM (Memref.isWhole_whole _) tabM (Memref.isWhole_whole _) codeM (Memref.isWhole_whole _) levM (Memref.isWhole_whole _)) R := by
    by_cases hi : isFirst i
    · exact ⟨_, _, _, _, fun R => prep_first c i M1 h1 M2 h2 M3 h3 M4 h4 M5 h5 f1 f4 hi f6 f7 f8 f9 E R⟩
    · exact ⟨_, _, _, _, fun R => prep_later c i M1 h1 M2 h2 M3 h3 M4 h4 M5 h5 f1 f4 hi f6 f7 f8 f9 E R⟩
  obtain ⟨s6, s7, s8, s9, hprep⟩ := key
  iintro ⟨H1, H2, H3, H4, H5, H6, H7, H8, H9, Hk⟩
  iapply ((run c i M1 h1 M2 h2 M3 h3 M4 h4 M5 h5 f1 f2 f3 f4 s6 s7 s8 s9).2 f5 f6 f7 f8 f9 E Q hprep)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, H5, H6, H7, H8, H9⟩
  iapply Hk
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iexists _; iexact H9

end Step

variable (m : (ℓ : Loc nD τ sig) → Buf (Elt F) ℓ) (ρ : Dev nD → PrngReg)

/-- The result's window is forgotten. -/
def forgets0 : Fin 5 → Bool := ![false, false, false, false, true]

/-- The proof data of the pipeline: the inputs' buffers left at their blocks, the result's unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Pipeline.Dat.unnamed (cfg := cfg0) 4 t
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by dsimp only [dats]

/-- Window 0's buffer after the body: its block, unchanged. -/
theorem after0_0 (c : Dev nD) (t : Fin cfg0.N) : (dats m 0 c).after 0 t = iblk m c 0 t := by dsimp only [dats]
/-- Window 1's buffer after the body: its block, unchanged. -/
theorem after0_1 (c : Dev nD) (t : Fin cfg0.N) : (dats m 0 c).after 1 t = iblk m c 1 t := by dsimp only [dats]
/-- Window 2's buffer after the body: its block, unchanged. -/
theorem after0_2 (c : Dev nD) (t : Fin cfg0.N) : (dats m 0 c).after 2 t = iblk m c 2 t := by dsimp only [dats]
/-- Window 3's buffer after the body: its block, unchanged. -/
theorem after0_3 (c : Dev nD) (t : Fin cfg0.N) : (dats m 0 c).after 3 t = iblk m c 3 t := by dsimp only [dats]

/-- Window 0's buffer before the body: its block. -/
theorem before0_0 (c : Dev nD) (t : Fin cfg0.N) (d) : (dats m 0 c).before 0 t d = iblk m c 0 t :=
  before0_0_of m (dats m 0 c) (A_eq m c 0) (after0_0 m c) t d
/-- Window 1's buffer before the body: its block. -/
theorem before0_1 (c : Dev nD) (t : Fin cfg0.N) (d) : (dats m 0 c).before 1 t d = iblk m c 1 t :=
  before0_1_of m (dats m 0 c) (A_eq m c 1) (after0_1 m c) t d
/-- Window 2's buffer before the body: its block. -/
theorem before0_2 (c : Dev nD) (t : Fin cfg0.N) (d) : (dats m 0 c).before 2 t d = iblk m c 2 t :=
  before0_2_of m (dats m 0 c) (A_eq m c 2) (after0_2 m c) t d
/-- Window 3's buffer before the body: its block. -/
theorem before0_3 (c : Dev nD) (t : Fin cfg0.N) (d) : (dats m 0 c).before 3 t d = iblk m c 3 t :=
  before0_3_of m (dats m 0 c) (A_eq m c 3) (after0_3 m c) t d

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d))

/-- A whole memref held whole is owned at what it reads. -/
theorem owns_of_whole (c : Dev nD) {sp : Space} {S : Shape} {e : EltTy} (M : Memref sig .tc sp S e) (hM : M.IsWhole)
    (X : S.Idx → Elt F e) : (owns (c : Thread nD τ) M fullShare X : sProp 𝕄) = iprop(∃ f : Bf (F := F) c M, ⌜M.view.read (Elt F) f = X⌝ ∗ pt c M f) := by
  unfold owns
  simp only [hM.set_eq_univ]

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3,
    show (dats m 0 c).Φ t.castSucc = iprop(Pipeline.scopedRest spec0 c ∗ ∃ r, prngReg c r) from rfl, scopedRest0_eq]
  simp only [owns_of_whole c (st0_0 t) (hstage0_0 ((cfg0.slots t 0).cast nbuf0_0)), owns_of_whole c (st0_1 t) (hstage0_1 ((cfg0.slots t 1).cast nbuf0_1)),
    owns_of_whole c (st0_2 t) (hstage0_2 ((cfg0.slots t 2).cast nbuf0_2)), owns_of_whole c (st0_3 t) (hstage0_3 ((cfg0.slots t 3).cast nbuf0_3)),
    owns_of_whole c (st0_4 t) (hstage0_4 ((cfg0.slots t 4).cast nbuf0_4))]
  iintro ⟨⟨⟨⟨%f6, H6⟩, ⟨%f7, H7⟩, ⟨%f8, H8⟩, ⟨%f9, H9⟩⟩, Hg⟩, Ho, ⟨%d0, ⟨%f1, %e1, H1⟩⟩, ⟨%d1, ⟨%f2, %e2, H2⟩⟩, ⟨%d2, ⟨%f3, %e3, H3⟩⟩, ⟨%d3, ⟨%f4, %e4, H4⟩⟩, ⟨%d4, ⟨%f5, %e5, H5⟩⟩⟩
  iapply (step_some c (grid0.coords t) _ _ _ _ _ _ _ _ _ _ f1 f2 f3 f4 f5 f6 f7 f8 f9 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, ⟨%g5, H5⟩, H6, H7, H8, H9⟩
  isplitl [H6 H7 H8 H9 Hg]
  · isplitl [H6 H7 H8 H9]
    · isplitl [H6]; · iexact H6
      isplitl [H7]; · iexact H7
      isplitl [H8]; · iexact H8
      iexact H9
    iexact Hg
  isplitl [Ho]; · iexact Ho
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  iexists _; iexists g5; isplitr; · ipureintro; rfl
  iexact H5

/-- The body table's row at a point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation, with the result forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

-- the launch theorem's implicit arguments are found by unifying its conclusion with this statement
set_option backward.isDefEq.respectTransparency.types false in
/-- Every execution ends, every buffer that is no window's array as it was and every semaphore at zero. -/
theorem run_main : θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the kernel ends, its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.Kernel.Body

end
-- ==== Proof.Init.lean ====
module

public import proofs.«01_k».proof.Proof.Gen.KernelIdeal.Skeleton
public import Idealize.ShloMosaic.Lib.Claim
public import Idealize.ShloMosaic.Lib.Mxu.Lemmas

@[expose] public section

set_option maxRecDepth 65536

noncomputable section

/-! The first step's preparation of the scratch buffers. -/

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of memref `M` on core `c`. -/
abbrev Bf (c : Dev nD) {sp : Space} {S : Shape} {e : EltTy} (M : Memref sig .tc sp S e) : Type := Buf (Elt F) (M.view.loc (c : Thread nD τ))
/-- Memref `M` held whole on core `c`, with contents `f`. -/
abbrev pt (c : Dev nD) {sp : Space} {S : Shape} {e : EltTy} (M : Memref sig .tc sp S e) (f : Bf (F := F) c M) : sProp 𝕄 :=
  M.view.loc (c : Thread nD τ) ↦{fullShare} f

/-- Whether a grid step is the first. -/
abbrev isFirst (i : grid0.Coords) : Prop :=
  Scalar.cmpi .ne (Scalar.extui (Scalar.cmpi .eq (BitVec.ofNat 32 (i 0).val) 0#32) : BitVec 32) 0#32 = 1#1

/-- The scratch copy of the activations, one block of 128 columns per unit. -/
abbrev xsM : Memref sig .tc .vmem S24x128x128 .bf16 := Memref.whole cc0_scratch0
/-- The scratch tables: packed digit pairs, packed signs, shift amounts. -/
abbrev tabM : Memref sig .tc .vmem S3x8x128 .i32 := Memref.whole cc0_scratch1
/-- The scratch codes: one packed word per unit, eight-entry field and column. -/
abbrev codeM : Memref sig .tc .vmem S24x32x128 .i32 := Memref.whole cc0_scratch2
/-- The scratch levels: nine rows per sub-block. -/
abbrev levM : Memref sig .tc .vmem S24x72x128 .f32 := Memref.whole cc0_scratch3

/-- What the body does at the first step only: fill the tables, clear the codes and levels, copy the activations
    and empty the accumulators. -/
def initProg (i : grid0.Coords) (arg1 : Memref sig .tc .vmem S128x3072 .bf16) (harg1 : arg1.IsWhole) (arg2 : Memref sig .tc .vmem S96x1x4x128 .i32) (harg2 : arg2.IsWhole) (arg3 : Memref sig .tc .vmem S12x256 .f16) (harg3 : arg3.IsWhole) (arg4 : Memref sig .tc .vmem S8x256 .i8) (harg4 : arg4.IsWhole) (arg5 : Memref sig .tc .vmem S128x256 .bf16) (harg5 : arg5.IsWhole) (arg6 : Memref sig .tc .vmem S24x128x128 .bf16) (harg6 : arg6.IsWhole) (arg7 : Memref sig .tc .vmem S3x8x128 .i32) (harg7 : arg7.IsWhole) (arg8 : Memref sig .tc .vmem S24x32x128 .i32) (harg8 : arg8.IsWhole) (arg9 : Memref sig .tc .vmem S24x72x128 .f32) (harg9 : arg9.IsWhole) :
    Prog (TpuEff nD τ sig (Elt F) Λ₀ .tc) (Mxu F) := do
  have k0_mxu1 : Mxu F := Mxu.init
  let ⟨v11017_r0, v11040_r0, v11045_r0, v11047_r0⟩ : Σ' (v11017_r0 : IVec S8x128 32) (v11040_r0 : IVec S8x128 32) (v11045_r0 : IVec S8x128 32), IVec S8x128 32 ← k0_part1 i arg1 harg1 arg2 harg2 arg3 harg3 arg4 harg4 arg5 harg5 arg6 harg6 arg7 harg7 arg8 harg8 arg9 harg9
  let ⟨v11093_r0, v11094_r0⟩ : Σ' (v11093_r0 : IVec S8x128 32), Vec F S1x8x128 .i32 ← k0_part2 i arg1 harg1 arg2 harg2 arg3 harg3 arg4 harg4 arg5 harg5 arg6 harg6 arg7 harg7 arg8 harg8 arg9 harg9 v11017_r0 v11040_r0 v11045_r0 v11047_r0
  let v11121_r0 : FVec F S128x128 .bf16 ← k0_part3 i arg1 harg1 arg2 harg2 arg3 harg3 arg4 harg4 arg5 harg5 arg6 harg6 arg7 harg7 arg8 harg8 arg9 harg9 v11093_r0 v11094_r0
  k0_part4 i arg1 harg1 arg2 harg2 arg3 harg3 arg4 harg4 arg5 harg5 arg6 harg6 arg7 harg7 arg8 harg8 arg9 harg9 v11121_r0
  let v11176_r0 : FVec F S128x128 .bf16 ← k0_part5 i arg1 harg1 arg2 harg2 arg3 harg3 arg4 harg4 arg5 harg5 arg6 harg6 arg7 harg7 arg8 harg8 arg9 harg9
  let v11204_r0 : FVec F S1x128x128 .bf16 ← k0_part6 i arg1 harg1 arg2 harg2 arg3 harg3 arg4 harg4 arg5 harg5 arg6 harg6 arg7 harg7 arg8 harg8 arg9 harg9 v11176_r0
  Prog.lift (.store arg6 (Rect.unit (s := S24x128x128) ![19, 0, 0] S1x128x128.size inb_S24x128x128_S1x128x128_19_0_0) v11204_r0 Finset.univ (View.stores_vmem h_S1x128x128 (harg6.storeExact_slice rfl _ packedbf16_S24x128x128_S1x128x128_19_0_0) (fun _ => rfl)) (.inl rfl))
  let v11205_r0 : Vec F S128x128 .bf16 ← Prog.lift (.load arg1 (Rect.unit (s := S128x3072) ![0, 2560] S128x128.size inb_S128x3072_S128x128_0_2560).toLoadRect (View.loadsAt_vmem h_S128x128))
  let v11207_r0 : Vec F S1x128x128 .bf16 ← Prog.lift (.load arg6 (Rect.unit (s := S24x128x128) ![20, 0, 0] S1x128x128.size inb_S24x128x128_S1x128x128_20_0_0).toLoadRect (View.loadsAt_vmem h_S1x128x128))
  Prog.lift (.store arg6 (Rect.unit (s := S24x128x128) ![20, 0, 0] S1x128x128.size inb_S24x128x128_S1x128x128_20_0_0) (k0_pay32 v11205_r0) Finset.univ (View.stores_vmem h_S1x128x128 (harg6.storeExact_slice rfl _ packedbf16_S24x128x128_S1x128x128_20_0_0) (fun _ => rfl)) (.inl rfl))
  let v11210_r0 : Vec F S128x128 .bf16 ← Prog.lift (.load arg1 (Rect.unit (s := S128x3072) ![0, 2688] S128x128.size inb_S128x3072_S128x128_0_2688).toLoadRect (View.loadsAt_vmem h_S128x128))
  let v11212_r0 : Vec F S1x128x128 .bf16 ← Prog.lift (.load arg6 (Rect.unit (s := S24x128x128) ![21, 0, 0] S1x128x128.size inb_S24x128x128_S1x128x128_21_0_0).toLoadRect (View.loadsAt_vmem h_S1x128x128))
  Prog.lift (.store arg6 (Rect.unit (s := S24x128x128) ![21, 0, 0] S1x128x128.size inb_S24x128x128_S1x128x128_21_0_0) (k0_pay33 v11210_r0) Finset.univ (View.stores_vmem h_S1x128x128 (harg6.storeExact_slice rfl _ packedbf16_S24x128x128_S1x128x128_21_0_0) (fun _ => rfl)) (.inl rfl))
  let v11215_r0 : Vec F S128x128 .bf16 ← Prog.lift (.load arg1 (Rect.unit (s := S128x3072) ![0, 2816] S128x128.size inb_S128x3072_S128x128_0_2816).toLoadRect (View.loadsAt_vmem h_S128x128))
  let v11217_r0 : Vec F S1x128x128 .bf16 ← Prog.lift (.load arg6 (Rect.unit (s := S24x128x128) ![22, 0, 0] S1x128x128.size inb_S24x128x128_S1x128x128_22_0_0).toLoadRect (View.loadsAt_vmem h_S1x128x128))
  Prog.lift (.store arg6 (Rect.unit (s := S24x128x128) ![22, 0, 0] S1x128x128.size inb_S24x128x128_S1x128x128_22_0_0) (k0_pay34 v11215_r0) Finset.univ (View.stores_vmem h_S1x128x128 (harg6.storeExact_slice rfl _ packedbf16_S24x128x128_S1x128x128_22_0_0) (fun _ => rfl)) (.inl rfl))
  let v11220_r0 : Vec F S128x128 .bf16 ← Prog.lift (.load arg1 (Rect.unit (s := S128x3072) ![0, 2944] S128x128.size inb_S128x3072_S128x128_0_2944).toLoadRect (View.loadsAt_vmem h_S128x128))
  let v11222_r0 : Vec F S1x128x128 .bf16 ← Prog.lift (.load arg6 (Rect.unit (s := S24x128x128) ![23, 0, 0] S1x128x128.size inb_S24x128x128_S1x128x128_23_0_0).toLoadRect (View.loadsAt_vmem h_S1x128x128))
  Prog.lift (.store arg6 (Rect.unit (s := S24x128x128) ![23, 0, 0] S1x128x128.size inb_S24x128x128_S1x128x128_23_0_0) (k0_pay35 v11220_r0) Finset.univ (View.stores_vmem h_S1x128x128 (harg6.storeExact_slice rfl _ packedbf16_S24x128x128_S1x128x128_23_0_0) (fun _ => rfl)) (.inl rfl))
  have v11225_r0 : FVec F S128x256 .f32 := k0_mxu1.read 0 0 fits_0_128
  have k0_mxu3 : Mxu F := k0_mxu1.pop 0 0 128 fits_0_128
  have v11226_r0 : FVec F S128x256 .f32 := k0_mxu3.read 1 0 fits_0_128
  have k0_mxu4 : Mxu F := k0_mxu3.pop 1 0 128 fits_0_128
  pure k0_mxu4

/-- The first conditional of the body: the preparation at the first step, nothing at any other. -/
def prepProg (i : grid0.Coords) (arg1 : Memref sig .tc .vmem S128x3072 .bf16) (harg1 : arg1.IsWhole) (arg2 : Memref sig .tc .vmem S96x1x4x128 .i32) (harg2 : arg2.IsWhole) (arg3 : Memref sig .tc .vmem S12x256 .f16) (harg3 : arg3.IsWhole) (arg4 : Memref sig .tc .vmem S8x256 .i8) (harg4 : arg4.IsWhole) (arg5 : Memref sig .tc .vmem S128x256 .bf16) (harg5 : arg5.IsWhole) (arg6 : Memref sig .tc .vmem S24x128x128 .bf16) (harg6 : arg6.IsWhole) (arg7 : Memref sig .tc .vmem S3x8x128 .i32) (harg7 : arg7.IsWhole) (arg8 : Memref sig .tc .vmem S24x32x128 .i32) (harg8 : arg8.IsWhole) (arg9 : Memref sig .tc .vmem S24x72x128 .f32) (harg9 : arg9.IsWhole) :
    Prog (TpuEff nD τ sig (Elt F) Λ₀ .tc) (Mxu F) :=
  if Scalar.cmpi .ne (Scalar.extui (Scalar.cmpi .eq (BitVec.ofNat 32 (i 0).val) 0#32) : BitVec 32) 0#32 = 1#1
  then initProg i arg1 harg1 arg2 harg2 arg3 harg3 arg4 harg4 arg5 harg5 arg6 harg6 arg7 harg7 arg8 harg8 arg9 harg9 else pure Mxu.init

/-- What follows the conditional in its part of the body. -/
def restProg (i : grid0.Coords) (arg1 : Memref sig .tc .vmem S128x3072 .bf16) (harg1 : arg1.IsWhole) (arg2 : Memref sig .tc .vmem S96x1x4x128 .i32) (harg2 : arg2.IsWhole) (arg3 : Memref sig .tc .vmem S12x256 .f16) (harg3 : arg3.IsWhole) (arg4 : Memref sig .tc .vmem S8x256 .i8) (harg4 : arg4.IsWhole) (arg5 : Memref sig .tc .vmem S128x256 .bf16) (harg5 : arg5.IsWhole) (arg6 : Memref sig .tc .vmem S24x128x128 .bf16) (harg6 : arg6.IsWhole) (arg7 : Memref sig .tc .vmem S3x8x128 .i32) (harg7 : arg7.IsWhole) (arg8 : Memref sig .tc .vmem S24x32x128 .i32) (harg8 : arg8.IsWhole) (arg9 : Memref sig .tc .vmem S24x72x128 .f32) (harg9 : arg9.IsWhole) (k0_mxu2 : Mxu F) :
    Prog (TpuEff nD τ sig (Elt F) Λ₀ .tc) (Σ' (k0_mxu2 : Mxu F) (v7_r0 : FVec F S12x256 .f32) (v8_r0 : IVec S8x128 32) (v10_r0 : IVec S8x128 32) (v13_r0 : Vec F S8x128 .f32) (v21_r0 : FVec F S8x128 .f32), FVec F S8x128 .f32) := do
  let v3_r0 : Vec F S12x256 .f16 ← Prog.lift (.load arg3 (Rect.unit (s := S12x256) ![0, 0] S12x256.size inb_S12x256_S12x256_0_0).toLoadRect (View.loadsAt_vmem h_S12x256))
  have v8_r0 : IVec S8x128 32 := iota .tc S8x128 32 [0] iota_S8x128_d0_w32
  let v9_r0 : Vec F S1x8x128 .i32 ← Prog.lift (.load arg7 (Rect.unit (s := S3x8x128) ![2, 0, 0] S1x8x128.size inb_S3x8x128_S1x8x128_2_0_0).toLoadRect (View.loadsAt_vmem h_S1x8x128))
  let v11_r0 : Memref sig .tc .vmem S1x72x128 .f32 := arg9.slice (Rect.unit (s := S24x72x128) ![0, 0, 0] S1x72x128.size inb_S24x72x128_S1x72x128_0_0_0) (fun _ => rfl)
  let v12_r0 : Memref sig .tc .vmem S72x128 .f32 := v11_r0.squeeze S72x128 squeezes_S1x72x128_S72x128
  let v13_r0 : Vec F S8x128 .f32 ← Prog.lift (.load v12_r0 (Rect.unit (s := S72x128) ![0, 0] S8x128.size inb_S72x128_S8x128_0_0).toLoadRect (View.loadsAt_vmem h_S8x128))
  let v14_r0 : Memref sig .tc .vmem S1x32x128 .i32 := arg8.slice (Rect.unit (s := S24x32x128) ![0, 0, 0] S1x32x128.size inb_S24x32x128_S1x32x128_0_0_0) (fun _ => rfl)
  let v15_r0 : Memref sig .tc .vmem S32x128 .i32 := v14_r0.squeeze S32x128 squeezes_S1x32x128_S32x128
  let v16_r0 : Vec F S8x128 .i32 ← Prog.lift (.load v15_r0 (⟨![0, 0], S8x128.size, ![0, 1], inb_S32x128_S8x128_0_0_s_0_1⟩ : LoadRect S32x128) (View.loadsAt_vmem h_S8x128))
  let v22_r0 : Memref sig .tc .vmem S1x32x128 .i32 := arg8.slice (Rect.unit (s := S24x32x128) ![0, 0, 0] S1x32x128.size inb_S24x32x128_S1x32x128_0_0_0) (fun _ => rfl)
  let v23_r0 : Memref sig .tc .vmem S32x128 .i32 := v22_r0.squeeze S32x128 squeezes_S1x32x128_S32x128
  let v24_r0 : Vec F S8x128 .i32 ← Prog.lift (.load v23_r0 (⟨![8, 0], S8x128.size, ![0, 1], inb_S32x128_S8x128_8_0_s_0_1⟩ : LoadRect S32x128) (View.loadsAt_vmem h_S8x128))
  pure ⟨k0_mxu2, k0_pay36 v3_r0, v8_r0, k0_pay37 v9_r0, v13_r0, k0_pay38 v9_r0 v13_r0 v16_r0, k0_pay39 v9_r0 v13_r0 v24_r0⟩

/-- The part holding the conditional is the conditional, then the rest. -/
theorem k0_part7_split (i : grid0.Coords) (arg1 : Memref sig .tc .vmem S128x3072 .bf16) (harg1 : arg1.IsWhole) (arg2 : Memref sig .tc .vmem S96x1x4x128 .i32) (harg2 : arg2.IsWhole) (arg3 : Memref sig .tc .vmem S12x256 .f16) (harg3 : arg3.IsWhole) (arg4 : Memref sig .tc .vmem S8x256 .i8) (harg4 : arg4.IsWhole) (arg5 : Memref sig .tc .vmem S128x256 .bf16) (harg5 : arg5.IsWhole) (arg6 : Memref sig .tc .vmem S24x128x128 .bf16) (harg6 : arg6.IsWhole) (arg7 : Memref sig .tc .vmem S3x8x128 .i32) (harg7 : arg7.IsWhole) (arg8 : Memref sig .tc .vmem S24x32x128 .i32) (harg8 : arg8.IsWhole) (arg9 : Memref sig .tc .vmem S24x72x128 .f32) (harg9 : arg9.IsWhole) :
    k0_part7 (F := F) i arg1 harg1 arg2 harg2 arg3 harg3 arg4 harg4 arg5 harg5 arg6 harg6 arg7 harg7 arg8 harg8 arg9 harg9 = prepProg i arg1 harg1 arg2 harg2 arg3 harg3 arg4 harg4 arg5 harg5 arg6 harg6 arg7 harg7 arg8 harg8 arg9 harg9 >>= restProg i arg1 harg1 arg2 harg2 arg3 harg3 arg4 harg4 arg5 harg5 arg6 harg6 arg7 harg7 arg8 harg8 arg9 harg9 := by
  rw [k0_part7_eq_skeleton]
  unfold k0_part7_skel prepProg
  dsimp only
  split
  · simp only [initProg, bind_assoc, pure_bind]; rfl
  · rfl

/-- Emptying both fresh accumulators leaves the matrix unit fresh. -/
theorem pop_pop_init : (((Mxu.init : Mxu F).pop 0 0 128 fits_0_128).pop 1 0 128 fits_0_128) = Mxu.init := by
  have h : ∀ q : Fin 2, (Mxu.init : Mxu F).pop q 0 128 fits_0_128 = Mxu.init := fun q => by
    unfold Mxu.pop Mxu.init; congr 1 <;> (funext; simp)
  rw [h, h]

/-- The first step's preparation: the contents it leaves in the four scratch buffers, WITH the proof that it runs
    from any contents of them and leaves the matrix unit fresh. -/
def initRun (c : Dev nD) (i : grid0.Coords)
    (M1 : Memref sig .tc .vmem S128x3072 .bf16) (h1 : M1.IsWhole) (M2 : Memref sig .tc .vmem S96x1x4x128 .i32) (h2 : M2.IsWhole)
    (M3 : Memref sig .tc .vmem S12x256 .f16) (h3 : M3.IsWhole) (M4 : Memref sig .tc .vmem S8x256 .i8) (h4 : M4.IsWhole)
    (M5 : Memref sig .tc .vmem S128x256 .bf16) (h5 : M5.IsWhole)
    (f1 : Bf (F := F) c M1) (f4 : Bf (F := F) c M4) :
    { W : Bf (F := F) c xsM × Bf (F := F) c tabM × Bf (F := F) c codeM × Bf (F := F) c levM //
      ∀ (f6 : Bf (F := F) c xsM) (f7 : Bf (F := F) c tabM) (f8 : Bf (F := F) c codeM) (f9 : Bf (F := F) c levM) (E : Set ℕ) (Q : Mxu F → sProp 𝕄),
        iprop(pt c M1 f1 ∗ pt c M4 f4 ∗ pt c xsM f6 ∗ pt c tabM f7 ∗ pt c codeM f8 ∗ pt c levM f9
          ∗ (iprop(pt c M1 f1 ∗ pt c M4 f4 ∗ pt c xsM W.1 ∗ pt c tabM W.2.1 ∗ pt c codeM W.2.2.1 ∗ pt c levM W.2.2.2) -∗ Q Mxu.init))
        ⊢ wp frame (wpE (defs₀ (F := F)) Variants.none c none) E
            (initProg i M1 h1 M2 h2 M3 h3 M4 h4 M5 h5 xsM (Memref.isWhole_whole _) tabM (Memref.isWhole_whole _) codeM (Memref.isWhole_whole _) levM (Memref.isWhole_whole _)) Q } := by
  refine ⟨⟨?_, ?_, ?_, ?_⟩, fun f6 f7 f8 f9 E Q => ?run⟩
  case run =>
    iintro ⟨H1, H4, H6, H7, H8, H9, Hk⟩
    unfold initProg
    set_option sl_exec.squeezeSlice true in
    sl_exec!
    sl_step
    rw [show initRun.sl.k0_mxu4 (F := F) = Mxu.init from pop_pop_init]
    iapply Hk
    isplitl [H1]; · iexact H1
    isplitl [H4]; · iexact H4
    isplitl [H6]; · iexact H6
    isplitl [H7]; · iexact H7
    isplitl [H8]; · iexact H8
    iexact H9

end Cert.KernelIdeal.Body

end
-- ==== Proof.Run.lean ====
module

public import proofs.«01_k».proof.Proof.Init

@[expose] public section

set_option maxRecDepth 65536

noncomputable section

/-! The body at a grid step, run once at symbolic operands. -/

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body at a step, its first conditional having left the scratch at `s6 … s9`: the contents it leaves in the result's buffer,
    the codes and the levels, WITH the proof that it runs to its return, handing back everything else as it was. -/
def run (c : Dev nD) (i : grid0.Coords)
    (M1 : Memref sig .tc .vmem S128x3072 .bf16) (h1 : M1.IsWhole) (M2 : Memref sig .tc .vmem S96x1x4x128 .i32) (h2 : M2.IsWhole)
    (M3 : Memref sig .tc .vmem S12x256 .f16) (h3 : M3.IsWhole) (M4 : Memref sig .tc .vmem S8x256 .i8) (h4 : M4.IsWhole)
    (M5 : Memref sig .tc .vmem S128x256 .bf16) (h5 : M5.IsWhole)
    (f1 : Bf (F := F) c M1) (f2 : Bf (F := F) c M2) (f3 : Bf (F := F) c M3) (f4 : Bf (F := F) c M4)
    (s6 : Bf (F := F) c xsM) (s7 : Bf (F := F) c tabM) (s8 : Bf (F := F) c codeM) (s9 : Bf (F := F) c levM) :
    { W : Bf (F := F) c M5 × Bf (F := F) c codeM × Bf (F := F) c levM //
      ∀ (f5 : Bf (F := F) c M5) (f6 : Bf (F := F) c xsM) (f7 : Bf (F := F) c tabM) (f8 : Bf (F := F) c codeM) (f9 : Bf (F := F) c levM)
        (E : Set ℕ) (Q : PUnit → sProp 𝕄)
        (_ : ∀ R : Mxu F → sProp 𝕄, iprop(pt c M1 f1 ∗ pt c M4 f4 ∗ pt c xsM f6 ∗ pt c tabM f7 ∗ pt c codeM f8 ∗ pt c levM f9
            ∗ (iprop(pt c M1 f1 ∗ pt c M4 f4 ∗ pt c xsM s6 ∗ pt c tabM s7 ∗ pt c codeM s8 ∗ pt c levM s9) -∗ R Mxu.init))
          ⊢ wp frame (wpE (defs₀ (F := F)) Variants.none c none) E (prepProg i M1 h1 M2 h2 M3 h3 M4 h4 M5 h5 xsM (Memref.isWhole_whole _) tabM (Memref.isWhole_whole _) codeM (Memref.isWhole_whole _) levM (Memref.isWhole_whole _)) R),
        iprop(pt c M1 f1 ∗ pt c M2 f2 ∗ pt c M3 f3 ∗ pt c M4 f4 ∗ pt c M5 f5 ∗ pt c xsM f6 ∗ pt c tabM f7 ∗ pt c codeM f8 ∗ pt c levM f9
          ∗ (iprop(pt c M1 f1 ∗ pt c M2 f2 ∗ pt c M3 f3 ∗ pt c M4 f4 ∗ pt c M5 W.1 ∗ pt c xsM s6 ∗ pt c tabM s7 ∗ pt c codeM W.2.1 ∗ pt c levM W.2.2) -∗ Q ⟨⟩))
        ⊢ wp frame (wpE (defs₀ (F := F)) Variants.none c none) E
            (cc0_iq2_xxs_matmul i M1 h1 M2 h2 M3 h3 M4 h4 M5 h5 xsM (Memref.isWhole_whole _) tabM (Memref.isWhole_whole _) codeM (Memref.isWhole_whole _) levM (Memref.isWhole_whole _)) Q } := by
  refine ⟨⟨?_, ?_, ?_⟩, fun f5 f6 f7 f8 f9 E Q hprep => ?run⟩
  case run =>
    rw [cc0_iq2_xxs_matmul_eq_skeleton]
    unfold cc0_iq2_xxs_matmul_skel
    rw [wp_bind, k0_part319_eq_skeleton]
    unfold k0_part319_skel
    rw [wp_bind, k0_part7_split, wp_bind]
    iintro ⟨H1, H2, H3, H4, H5, H6, H7, H8, H9, Hk⟩
    iapply (hprep _)
    isplitl [H1]; · iexact H1
    isplitl [H4]; · iexact H4
    isplitl [H6]; · iexact H6
    isplitl [H7]; · iexact H7
    isplitl [H8]; · iexact H8
    isplitl [H9]; · iexact H9
    iintro ⟨H1, H4, H6, H7, H8, H9⟩
    rw [← wp_bind, ← wp_bind]
    clear hprep
    unfold restProg
    set_option sl_exec.squeezeSlice true in
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end Cert.KernelIdeal.Body

end
-- ==== Proof.IFrame.lean ====
module

public import proofs.«01_k».proof.Proof.Run
public import proofs.«01_k».proof.Proof.Gen.KernelIdeal.Frame
public import Idealize.ShloMosaic.Lib.Pipeline.Frame

@[expose] public section

set_option maxRecDepth 65536

noncomputable section

/-! The frame of the kernel: it runs to its end, its arguments unchanged and every semaphore at zero. The result's
    window is forgotten here, nothing being said of what the body leaves in it. -/

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Step

variable (c : Dev nD) (i : grid0.Coords)
    (M1 : Memref sig .tc .vmem S128x3072 .bf16) (h1 : M1.IsWhole) (M2 : Memref sig .tc .vmem S96x1x4x128 .i32) (h2 : M2.IsWhole)
    (M3 : Memref sig .tc .vmem S12x256 .f16) (h3 : M3.IsWhole) (M4 : Memref sig .tc .vmem S8x256 .i8) (h4 : M4.IsWhole)
    (M5 : Memref sig .tc .vmem S128x256 .bf16) (h5 : M5.IsWhole)
    (f1 : Bf (F := F) c M1) (f2 : Bf (F := F) c M2) (f3 : Bf (F := F) c M3) (f4 : Bf (F := F) c M4)

/-- At the first step the conditional prepares the scratch as `initRun` says. -/
theorem prep_first (hi : isFirst i) (f6 : Bf (F := F) c xsM) (f7 : Bf (F := F) c tabM) (f8 : Bf (F := F) c codeM) (f9 : Bf (F := F) c levM)
    (E : Set ℕ) (R : Mxu F → sProp 𝕄) :
    iprop(pt c M1 f1 ∗ pt c M4 f4 ∗ pt c xsM f6 ∗ pt c tabM f7 ∗ pt c codeM f8 ∗ pt c levM f9
      ∗ (iprop(pt c M1 f1 ∗ pt c M4 f4 ∗ pt c xsM (initRun c i M1 h1 M2 h2 M3 h3 M4 h4 M5 h5 f1 f4).1.1
          ∗ pt c tabM (initRun c i M1 h1 M2 h2 M3 h3 M4 h4 M5 h5 f1 f4).1.2.1
          ∗ pt c codeM (initRun c i M1 h1 M2 h2 M3 h3 M4 h4 M5 h5 f1 f4).1.2.2.1
          ∗ pt c levM (initRun c i M1 h1 M2 h2 M3 h3 M4 h4 M5 h5 f1 f4).1.2.2.2) -∗ R Mxu.init))
    ⊢ wp frame (wpE (defs₀ (F := F)) Variants.none c none) E (prepProg i M1 h1 M2 h2 M3 h3 M4 h4 M5 h5 xsM (Memref.isWhole_whole _) tabM (Memref.isWhole_whole _) codeM (Memref.isWhole_whole _) levM (Memref.isWhole_whole _)) R := by
  unfold prepProg
  rw [if_pos hi]
  exact (initRun c i M1 h1 M2 h2 M3 h3 M4 h4 M5 h5 f1 f4).2 f6 f7 f8 f9 E R

/-- At a later step the conditional leaves the scratch as it was. -/
theorem prep_later (hi : ¬ isFirst i) (f6 : Bf (F := F) c xsM) (f7 : Bf (F := F) c tabM) (f8 : Bf (F := F) c codeM) (f9 : Bf (F := F) c levM)
    (E : Set ℕ) (R : Mxu F → sProp 𝕄) :
    iprop(pt c M1 f1 ∗ pt c M4 f4 ∗ pt c xsM f6 ∗ pt c tabM f7 ∗ pt c codeM f8 ∗ pt c levM f9
      ∗ (iprop(pt c M1 f1 ∗ pt c M4 f4 ∗ pt c xsM f6 ∗ pt c tabM f7 ∗ pt c codeM f8 ∗ pt c levM f9) -∗ R Mxu.init))
    ⊢ wp frame (wpE (defs₀ (F := F)) Variants.none c none) E (prepProg i M1 h1 M2 h2 M3 h3 M4 h4 M5 h5 xsM (Memref.isWhole_whole _) tabM (Memref.isWhole_whole _) codeM (Memref.isWhole_whole _) levM (Memref.isWhole_whole _)) R := by
  unfold prepProg
  rw [if_neg hi]
  iintro ⟨H1, H4, H6, H7, H8, H9, Hk⟩
  sl_step
  iapply Hk
  isplitl [H1]; · iexact H1
  isplitl [H4]; · iexact H4
  isplitl [H6]; · iexact H6
  isplitl [H7]; · iexact H7
  isplitl [H8]; · iexact H8
  iexact H9

/-- The body at any step, from any contents: it runs to its return, the inputs' buffers unchanged, every other buffer at
    some contents. -/
theorem step_some (f5 : Bf (F := F) c M5) (f6 : Bf (F := F) c xsM) (f7 : Bf (F := F) c tabM) (f8 : Bf (F := F) c codeM) (f9 : Bf (F := F) c levM)
    (E : Set ℕ) (Q : PUnit → sProp 𝕄) :
    iprop(pt c M1 f1 ∗ pt c M2 f2 ∗ pt c M3 f3 ∗ pt c M4 f4 ∗ pt c M5 f5 ∗ pt c xsM f6 ∗ pt c tabM f7 ∗ pt c codeM f8 ∗ pt c levM f9
      ∗ (iprop(pt c M1 f1 ∗ pt c M2 f2 ∗ pt c M3 f3 ∗ pt c M4 f4 ∗ (∃ g, pt c M5 g)
          ∗ (∃ g, pt c xsM g) ∗ (∃ g, pt c tabM g) ∗ (∃ g, pt c codeM g) ∗ (∃ g, pt c levM g)) -∗ Q ⟨⟩))
    ⊢ wp frame (wpE (defs₀ (F := F)) Variants.none c none) E
        (cc0_iq2_xxs_matmul i M1 h1 M2 h2 M3 h3 M4 h4 M5 h5 xsM (Memref.isWhole_whole _) tabM (Memref.isWhole_whole _) codeM (Memref.isWhole_whole _) levM (Memref.isWhole_whole _)) Q := by
  have key : ∃ (s6 : Bf (F := F) c xsM) (s7 : Bf (F := F) c tabM) (s8 : Bf (F := F) c codeM) (s9 : Bf (F := F) c levM),
      ∀ R : Mxu F → sProp 𝕄, iprop(pt c M1 f1 ∗ pt c M4 f4 ∗ pt c xsM f6 ∗ pt c tabM f7 ∗ pt c codeM f8 ∗ pt c levM f9
            ∗ (iprop(pt c M1 f1 ∗ pt c M4 f4 ∗ pt c xsM s6 ∗ pt c tabM s7 ∗ pt c codeM s8 ∗ pt c levM s9) -∗ R Mxu.init))
          ⊢ wp frame (wpE (defs₀ (F := F)) Variants.none c none) E (prepProg i M1 h1 M2 h2 M3 h3 M4 h4 M5 h5 xsM (Memref.isWhole_whole _) tabM (Memref.isWhole_whole _) codeM (Memref.isWhole_whole _) levM (Memref.isWhole_whole _)) R := by
    by_cases hi : isFirst i
    · exact ⟨_, _, _, _, fun R => prep_first c i M1 h1 M2 h2 M3 h3 M4 h4 M5 h5 f1 f4 hi f6 f7 f8 f9 E R⟩
    · exact ⟨_, _, _, _, fun R => prep_later c i M1 h1 M2 h2 M3 h3 M4 h4 M5 h5 f1 f4 hi f6 f7 f8 f9 E R⟩
  obtain ⟨s6, s7, s8, s9, hprep⟩ := key
  iintro ⟨H1, H2, H3, H4, H5, H6, H7, H8, H9, Hk⟩
  iapply ((run c i M1 h1 M2 h2 M3 h3 M4 h4 M5 h5 f1 f2 f3 f4 s6 s7 s8 s9).2 f5 f6 f7 f8 f9 E Q hprep)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, H5, H6, H7, H8, H9⟩
  iapply Hk
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iexists _; iexact H9

end Step

variable (m : (ℓ : Loc nD τ sig) → Buf (Elt F) ℓ) (ρ : Dev nD → PrngReg)

/-- The result's window is forgotten. -/
def forgets0 : Fin 5 → Bool := ![false, false, false, false, true]

/-- The proof data of the pipeline: the inputs' buffers left at their blocks, the result's unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Pipeline.Dat.unnamed (cfg := cfg0) 4 t
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by dsimp only [dats]

/-- Window 0's buffer after the body: its block, unchanged. -/
theorem after0_0 (c : Dev nD) (t : Fin cfg0.N) : (dats m 0 c).after 0 t = iblk m c 0 t := by dsimp only [dats]
/-- Window 1's buffer after the body: its block, unchanged. -/
theorem after0_1 (c : Dev nD) (t : Fin cfg0.N) : (dats m 0 c).after 1 t = iblk m c 1 t := by dsimp only [dats]
/-- Window 2's buffer after the body: its block, unchanged. -/
theorem after0_2 (c : Dev nD) (t : Fin cfg0.N) : (dats m 0 c).after 2 t = iblk m c 2 t := by dsimp only [dats]
/-- Window 3's buffer after the body: its block, unchanged. -/
theorem after0_3 (c : Dev nD) (t : Fin cfg0.N) : (dats m 0 c).after 3 t = iblk m c 3 t := by dsimp only [dats]

/-- Window 0's buffer before the body: its block. -/
theorem before0_0 (c : Dev nD) (t : Fin cfg0.N) (d) : (dats m 0 c).before 0 t d = iblk m c 0 t :=
  before0_0_of m (dats m 0 c) (A_eq m c 0) (after0_0 m c) t d
/-- Window 1's buffer before the body: its block. -/
theorem before0_1 (c : Dev nD) (t : Fin cfg0.N) (d) : (dats m 0 c).before 1 t d = iblk m c 1 t :=
  before0_1_of m (dats m 0 c) (A_eq m c 1) (after0_1 m c) t d
/-- Window 2's buffer before the body: its block. -/
theorem before0_2 (c : Dev nD) (t : Fin cfg0.N) (d) : (dats m 0 c).before 2 t d = iblk m c 2 t :=
  before0_2_of m (dats m 0 c) (A_eq m c 2) (after0_2 m c) t d
/-- Window 3's buffer before the body: its block. -/
theorem before0_3 (c : Dev nD) (t : Fin cfg0.N) (d) : (dats m 0 c).before 3 t d = iblk m c 3 t :=
  before0_3_of m (dats m 0 c) (A_eq m c 3) (after0_3 m c) t d

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d))

/-- A whole memref held whole is owned at what it reads. -/
theorem owns_of_whole (c : Dev nD) {sp : Space} {S : Shape} {e : EltTy} (M : Memref sig .tc sp S e) (hM : M.IsWhole)
    (X : S.Idx → Elt F e) : (owns (c : Thread nD τ) M fullShare X : sProp 𝕄) = iprop(∃ f : Bf (F := F) c M, ⌜M.view.read (Elt F) f = X⌝ ∗ pt c M f) := by
  unfold owns
  simp only [hM.set_eq_univ]

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3,
    show (dats m 0 c).Φ t.castSucc = iprop(Pipeline.scopedRest spec0 c ∗ ∃ r, prngReg c r) from rfl, scopedRest0_eq]
  simp only [owns_of_whole c (st0_0 t) (hstage0_0 ((cfg0.slots t 0).cast nbuf0_0)), owns_of_whole c (st0_1 t) (hstage0_1 ((cfg0.slots t 1).cast nbuf0_1)),
    owns_of_whole c (st0_2 t) (hstage0_2 ((cfg0.slots t 2).cast nbuf0_2)), owns_of_whole c (st0_3 t) (hstage0_3 ((cfg0.slots t 3).cast nbuf0_3)),
    owns_of_whole c (st0_4 t) (hstage0_4 ((cfg0.slots t 4).cast nbuf0_4))]
  iintro ⟨⟨⟨⟨%f6, H6⟩, ⟨%f7, H7⟩, ⟨%f8, H8⟩, ⟨%f9, H9⟩⟩, Hg⟩, Ho, ⟨%d0, ⟨%f1, %e1, H1⟩⟩, ⟨%d1, ⟨%f2, %e2, H2⟩⟩, ⟨%d2, ⟨%f3, %e3, H3⟩⟩, ⟨%d3, ⟨%f4, %e4, H4⟩⟩, ⟨%d4, ⟨%f5, %e5, H5⟩⟩⟩
  iapply (step_some c (grid0.coords t) _ _ _ _ _ _ _ _ _ _ f1 f2 f3 f4 f5 f6 f7 f8 f9 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, ⟨%g5, H5⟩, H6, H7, H8, H9⟩
  isplitl [H6 H7 H8 H9 Hg]
  · isplitl [H6 H7 H8 H9]
    · isplitl [H6]; · iexact H6
      isplitl [H7]; · iexact H7
      isplitl [H8]; · iexact H8
      iexact H9
    iexact Hg
  isplitl [Ho]; · iexact Ho
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  iexists _; iexists g5; isplitr; · ipureintro; rfl
  iexact H5

/-- The body table's row at a point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation, with the result forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

-- the launch theorem's implicit arguments are found by unifying its conclusion with this statement
set_option backward.isDefEq.respectTransparency.types false in
/-- Every execution ends, every buffer that is no window's array as it was and every semaphore at zero. -/
theorem run_main : θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the kernel ends, its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.KernelIdeal.Body

end
-- ==== Proof.Spec.lean ====
module

public import proofs.«01_k».proof.Proof.Run

@[expose] public section

set_option maxRecDepth 65536
set_option maxHeartbeats 2000000

noncomputable section

/-! What the body computes at a step, once for every unit: the decoded codes and levels, the expanded tiles and the
    chain of products, each a function of the number of the unit, of the field and of the sub-block. -/

namespace Cert.KernelIdeal.Body

open Cert.KernelIdeal Cert.KernelIdeal.Gen
open Idealize.ShloMosaic Idealize.ShloMosaic.TcCoe

variable {F : FTy → Type} [FloatOps F]

/-- A vector of lane numbers, as a gather takes it. -/
def lanes (v : IVec S8x128 32) : IVec S8x128 32 :=
  shapeCast S8x128 (shapeCast S8x128x1 v shapeCasts_S8x128_S8x128x1) shapeCasts_S8x128x1_S8x128

/-- The eight packed codes of field `l`, from a unit's two words and the tables. -/
def codeV (a b : Vec F S8x128 .i32) (t0 t1 : Vec F S1x8x128 .i32) (l : Nat) : IVec S8x128 32 :=
  have a' : IVec S8x128 32 := shapeCast S8x128 a shapeCasts_S8x128_S8x128
  have b' : IVec S8x128 32 := shapeCast S8x128 b shapeCasts_S8x128_S8x128
  shapeCast S8x128 (addi
    (andi (shrui (dynamicGather 1 (shapeCast S8x128 t0 shapeCasts_S1x8x128_S8x128) (lanes (shrui a' (broadcast S8x128 (BitVec.ofNat 32 (8 * l))))))
        (andi (shrui a' (broadcast S8x128 (BitVec.ofNat 32 (8 * l + 6)))) (broadcast S8x128 2#32)))
      (broadcast S8x128 858993459#32))
    (dynamicGather 1 (shapeCast S8x128 t1 shapeCasts_S1x8x128_S8x128) (lanes (shrui b' (broadcast S8x128 (BitVec.ofNat 32 (7 * l)))))))
    shapeCasts_S8x128_S8x128

/-- The three levels' magnitudes as words. -/
def levelBits : Fin 3 → BitVec 32 := ![0x41000000#32, 0x41C80000#32, 0x422C0000#32]

/-- A row of scales of one half lies in the block. -/
theorem slices_d {sb h : Nat} (hsb : sb < 12) (hh : h < 2) : S12x256.Slices ![sb, 128 * h] S1x128 :=
  ⟨rfl, fun a => by fin_cases a <;> simp <;> omega⟩

/-- The eight values of level `r` of a unit, its scales in row `sb` and half `h` of `d`, negated or not. -/
def levelV (d : FVec F S12x256 .f32) (b : Vec F S8x128 .i32) (sb h : Nat) (hsb : sb < 12) (hh : h < 2) (r : Fin 3) (neg : Bool) : FVec F S8x128 .f32 :=
  have b' : IVec S8x128 32 := shapeCast S8x128 b shapeCasts_S8x128_S8x128
  have row : FVec F S8x128 .f32 := broadcastTo S8x128 (shapeCast S1x128 (extractStridedSlice S1x128 ![sb, 128 * h] d (slices_d hsb hh)) shapeCasts_S1x128_S1x128) broadcasts_S1x128_S8x128
  have db : FVec F S8x128 .f32 := mulf row (addf (broadcast S8x128 (Scalar.ofBits .f32 0x3F000000#32)) (sitofp .f32 (shrui b' (broadcast S8x128 28#32))))
  have w : FVec F S8x128 .f32 := extf .f32 (truncf .bf16 (mulf db (broadcast S8x128 (Scalar.ofBits .f32 (levelBits r)))) bitsLt_bf16_f32) bitsLt_bf16_f32
  match neg with
  | false => shapeCast S8x128 w shapeCasts_S8x128_S8x128
  | true => shapeCast S8x128 (subf (broadcast S8x128 (Scalar.ofBits .f32 0x00000000#32)) w) shapeCasts_S8x128_S8x128

section Reads

variable (c : Dev nD) (M2 : Memref sig .tc .vmem S96x1x4x128 .i32) (h2 : M2.IsWhole) (f2 : Bf (F := F) c M2)

/-- The words of eight sub-blocks, four rows apart from row `ρ`. -/
def wordV (ρ : Nat) (hρ : ρ + 28 < 384) : Vec F S8x128 .i32 :=
  View.readAt (Elt F) (M2.reshape S384x128 reshapes_S96x1x4x128_S384x128.1 reshapes_S96x1x4x128_S384x128.2 h2.contiguous).view
    { off := ![ρ, 0], size := S8x128.size, stride := ![4, 1], inb := fun a => .inr (by fin_cases a <;> simp <;> omega) } f2

/-- Table `k`. -/
def tableV (s7 : Bf (F := F) c tabM) (k : Nat) (hk : k < 3) : Vec F S1x8x128 .i32 :=
  View.readAt (Elt F) tabM.view (Rect.unit (s := S3x8x128) ![k, 0, 0] S1x8x128.size (fun a => by fin_cases a <;> simp <;> omega)).toLoadRect s7

/-- Where field `l` keeps its codes within a unit. -/
def codeBase (l : Nat) (hl : l < 4) : Rect S32x128 :=
  Rect.unit ![8 * l, 0] S8x128.size (fun a => by fin_cases a <;> simp <;> omega)

/-- Where field `l` of unit `u` keeps its codes. -/
def codeRect (u l : Nat) (hu : u < 24) (hl : l < 4) : Rect S24x32x128 :=
  (Rect.unit (s := S24x32x128) ![u, 0, 0] S1x32x128.size (fun a => by fin_cases a <;> simp <;> omega)).within
    ((codeBase l hl).consLift ![1, 32, 128] rfl (fun a => by fin_cases a <;> rfl)) (fun _ => rfl)

/-- Where row `ρ` of nine keeps its values within a unit. -/
def levBase (ρ : Nat) (hρ : ρ < 9) : Rect S72x128 :=
  { off := ![ρ, 0], size := S8x128.size, stride := ![9, 1], inb := fun a => .inr (by fin_cases a <;> simp <;> omega), stride_pos := fun a => by fin_cases a <;> simp }

/-- Where row `ρ` of nine of unit `u` keeps its values. -/
def levRect (u ρ : Nat) (hu : u < 24) (hρ : ρ < 9) : Rect S24x72x128 :=
  (Rect.unit (s := S24x72x128) ![u, 0, 0] S1x72x128.size (fun a => by fin_cases a <;> simp <;> omega)).within
    ((levBase ρ hρ).consLift ![1, 72, 128] rfl (fun a => by fin_cases a <;> rfl)) (fun _ => rfl)

/-- The rectangle of a store of codes has as many elements as its row. -/
theorem codeRect_numel (u l : Nat) (hu : u < 24) (hl : l < 4) : (codeRect u l hu hl).shape.numel = (codeBase l hl).shape.numel :=
  (codeBase l hl).numel_consLift ![1, 32, 128] rfl (fun a => by fin_cases a <;> rfl)

/-- The rectangle of a store of levels has as many elements as its rows. -/
theorem levRect_numel (u ρ : Nat) (hu : u < 24) (hρ : ρ < 9) : (levRect u ρ hu hρ).shape.numel = (levBase ρ hρ).shape.numel :=
  (levBase ρ hρ).numel_consLift ![1, 72, 128] rfl (fun a => by fin_cases a <;> rfl)

/-- The piece field `l` of unit `u` writes. -/
def codePiece (s7 : Bf (F := F) c tabM) (u l : Nat) (hu : u < 24) (hl : l < 4) : View.Piece (Elt F) S24x32x128 .i32 :=
  ⟨codeRect u l hu hl, Rect.payAlong (r := codeBase l hl) (codeRect_numel u l hu hl)
    (codeV (wordV c M2 h2 f2 (32 * (u / 2) + 2 * (u % 2)) (by omega)) (wordV c M2 h2 f2 (32 * (u / 2) + 2 * (u % 2) + 1) (by omega))
      (tableV c s7 0 (by omega)) (tableV c s7 1 (by omega)) l)⟩

/-- The pieces the first `n` fields write, the last first. -/
def codePieces (s7 : Bf (F := F) c tabM) : (n : Nat) → n ≤ 96 → List (View.Piece (Elt F) S24x32x128 .i32)
  | 0, _ => []
  | n + 1, hn => codePiece c M2 h2 f2 s7 (n / 4) (n % 4) (by omega) (by omega) :: codePieces s7 n (by omega)

/-- The scales of a block, quartered. -/
def scaleV (M3 : Memref sig .tc .vmem S12x256 .f16) (f3 : Bf (F := F) c M3) : FVec F S12x256 .f32 :=
  k0_pay36 (View.readAt (Elt F) M3.view (Rect.unit (s := S12x256) ![0, 0] S12x256.size inb_S12x256_S12x256_0_0).toLoadRect f3)

/-- The row of nine the `n`th level of a unit takes: each level at its own row and, negated, four rows on. -/
def levRow (n : Nat) : Nat := n / 2 + 4 * (n % 2)

/-- The piece the `n`th level of unit `u` writes. -/
def levPiece (M3 : Memref sig .tc .vmem S12x256 .f16) (f3 : Bf (F := F) c M3) (u n : Nat) (hu : u < 24) (hn : n < 6) : View.Piece (Elt F) S24x72x128 .f32 :=
  ⟨levRect u (levRow n) hu (by unfold levRow; omega), Rect.payAlong (r := levBase (levRow n) (by unfold levRow; omega)) (levRect_numel u (levRow n) hu (by unfold levRow; omega))
    (levelV (scaleV c M3 f3) (wordV c M2 h2 f2 (32 * (u / 2) + 2 * (u % 2) + 1) (by omega)) (u / 2) (u % 2) (by omega) (by omega) ⟨n / 2, by omega⟩ (n % 2 == 1))⟩

/-- The pieces the first `n` levels write, the last first. -/
def levPieces (M3 : Memref sig .tc .vmem S12x256 .f16) (f3 : Bf (F := F) c M3) : (n : Nat) → n ≤ 144 → List (View.Piece (Elt F) S24x72x128 .f32)
  | 0, _ => []
  | n + 1, hn => levPiece c M2 h2 f2 M3 f3 (n / 6) (n % 6) (by omega) (by omega) :: levPieces M3 f3 n (by omega)

end Reads

section Tiles

variable (c : Dev nD) (s6 : Bf (F := F) c xsM) (s7 : Bf (F := F) c tabM) (s8 : Bf (F := F) c codeM) (s9 : Bf (F := F) c levM)

/-- The rectangle of the eight codes' one row, held still over eight rows. -/
def stillRect (ρ : Nat) (hρ : ρ < 32) : LoadRect S32x128 :=
  { off := ![ρ, 0], size := S8x128.size, stride := ![0, 1], inb := fun a => .inr (by fin_cases a <;> simp <;> omega) }

/-- Eight rows of the levels from row `ρ`. -/
def rowsRect (ρ : Nat) (hρ : ρ + 7 < 72) : LoadRect S72x128 :=
  (Rect.unit (s := S72x128) ![ρ, 0] S8x128.size (fun a => by fin_cases a <;> simp <;> omega)).toLoadRect

/-- The eight rows of levels sub-block `s` of unit `u` picks from. -/
def pickLev (u s : Nat) (hu : u < 24) (hs : s < 8) : Vec F S8x128 .f32 :=
  LoadRect.valAlong ((rowsRect (9 * s) (by omega)).numel_consLift ![1, 72, 128] rfl (fun a => by fin_cases a <;> rfl)) (View.readAt (Elt F) levM.view
    ((Rect.unit (s := S24x72x128) ![u, 0, 0] S1x72x128.size (fun a => by fin_cases a <;> simp <;> omega)).withinL
      ((rowsRect (9 * s) (by omega)).consLift ![1, 72, 128] rfl (fun a => by fin_cases a <;> rfl)) (fun _ => rfl)) s9)

/-- The codes of field `l` of sub-block `s` of unit `u`, the same in every row. -/
def pickCode (u s l : Nat) (hu : u < 24) (hs : s < 8) (hl : l < 4) : Vec F S8x128 .i32 :=
  LoadRect.valAlong ((stillRect (8 * l + s) (by omega)).numel_consLift ![1, 32, 128] rfl (fun a => by fin_cases a <;> rfl)) (View.readAt (Elt F) codeM.view
    ((Rect.unit (s := S24x32x128) ![u, 0, 0] S1x32x128.size (fun a => by fin_cases a <;> simp <;> omega)).withinL
      ((stillRect (8 * l + s) (by omega)).consLift ![1, 32, 128] rfl (fun a => by fin_cases a <;> rfl)) (fun _ => rfl)) s8)

/-- The eight rows of weights of field `l` of sub-block `s` of unit `u`. -/
def fieldV (u s l : Nat) (hu : u < 24) (hs : s < 8) (hl : l < 4) : FVec F S8x128 .f32 :=
  dynamicGather 0 (pickLev c s9 u s hu hs)
    (lanes (addi (shrui (pickCode c s8 u s l hu hs hl) (shapeCast S8x128 (tableV c s7 2 (by omega)) shapeCasts_S1x8x128_S8x128)) (iota .tc S8x128 32 [0] iota_S8x128_d0_w32)))

/-- A unit's weights: its fields stacked. -/
def halfV (u : Nat) (hu : u < 24) : FVec F S256x128 .f32 :=
  concatenate S256x128 0 (List.ofFn fun p : Fin 32 => (⟨S8x128, fieldV c s7 s8 s9 u (p.val / 4) (p.val % 4) hu (by omega) (by omega)⟩ : (s : Shape) × (s.Idx → F .f32)))
    concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S256x128_d0

/-- The tile of super-block `n`: its two units side by side. -/
def tileV (n : Nat) (hn : n < 12) : FVec F S256x256 .f32 :=
  concatenate S256x256 1 [⟨S256x128, halfV c s7 s8 s9 (2 * n) (by omega)⟩, ⟨S256x128, halfV c s7 s8 s9 (2 * n + 1) (by omega)⟩] concatenates_S256x128_S256x128_S256x256_d1

/-- Slice `k` of the activations. -/
def sliceV (k : Nat) (hk : k < 24) : FVec F S128x128 .bf16 :=
  shapeCast S128x128 (View.readAt (Elt F) xsM.view (Rect.unit (s := S24x128x128) ![k, 0, 0] S1x128x128.size (fun a => by fin_cases a <;> simp <;> omega)).toLoadRect s6) shapeCasts_S1x128x128_S128x128

/-- The activations super-block `n` multiplies. -/
def lhsV (n : Nat) (hn : n < 12) : FVec F S128x256 .bf16 :=
  concatenate S128x256 1 [⟨S128x128, sliceV c s6 (2 * n) (by omega)⟩, ⟨S128x128, sliceV c s6 (2 * n + 1) (by omega)⟩] concatenates_S128x128_S128x128_S128x256_d1

/-- The matrix units after `n` super-blocks, in turn into the one and the other. -/
def chain : (n : Nat) → n ≤ 12 → Mxu F
  | 0, _ => Mxu.init
  | n + 1, hn => ((chain n (by omega)).pushed ⟨n % 2, by omega⟩ 0 false (tileV c s7 s8 s9 n hn)).accLhs ⟨n % 2, by omega⟩ 0 0 (lhsV c s6 n hn) fits_0_128

/-- The block of results. -/
def outV : FVec F S128x256 .bf16 :=
  truncf .bf16 (addf ((chain c s6 s7 s8 s9 12 le_rfl).read 0 0 fits_0_128) (((chain c s6 s7 s8 s9 12 le_rfl).pop 0 0 128 fits_0_128).read 1 0 fits_0_128)) bitsLt_bf16_f32

end Tiles

/-- The stores of codes that the run makes are the 96 listed. -/
theorem codes_eq (c : Dev nD) (M2 : Memref sig .tc .vmem S96x1x4x128 .i32) (h2 : M2.IsWhole) (f2 : Bf (F := F) c M2) (s7 : Bf (F := F) c tabM) :
    run.sl.H8_96 c M2 h2 f2 s7 = codePieces c M2 h2 f2 s7 96 le_rfl := rfl

/-- The stores of levels that the run makes are the 144 listed. -/
theorem levs_eq (c : Dev nD) (M2 : Memref sig .tc .vmem S96x1x4x128 .i32) (h2 : M2.IsWhole) (f2 : Bf (F := F) c M2)
    (M3 : Memref sig .tc .vmem S12x256 .f16) (f3 : Bf (F := F) c M3) :
    run.sl.H9_144 c M2 h2 M3 f2 f3 = levPieces c M2 h2 f2 M3 f3 144 le_rfl := rfl

/-- What the run stores as the result is the sum of the twelve products. -/
theorem out_eq (c : Dev nD) (s6 : Bf (F := F) c xsM) (s7 : Bf (F := F) c tabM) (s8 : Bf (F := F) c codeM) (s9 : Bf (F := F) c levM) :
    run.sl.r_365 c s6 s7 s8 s9 = outV c s6 s7 s8 s9 := rfl

end Cert.KernelIdeal.Body

end
-- ==== Proof.Elem.lean ====
module

public import proofs.«01_k».proof.Proof.Spec
public import Idealize.ShloMosaic.Lib.ValueIdx
public import Idealize.ShloMosaic.Lib.Pointwise
public import Idealize.ShloMosaic.Lib.Pipeline.Value
public import Idealize.ShloMosaic.Lib.Writes
public import Idealize.ShloMosaic.PureOps.Ideal

@[expose] public section

set_option maxRecDepth 65536

noncomputable section

/-! What the codes and the levels hold after a step, element by element. -/

namespace Cert.KernelIdeal.Body

open Cert.KernelIdeal Cert.KernelIdeal.Gen
open Idealize.ShloMosaic Idealize.ShloMosaic.TcCoe

/-- Word `w` of sub-block `i` of unit `u` at lane `j`. -/
def word1 (X2 : S96x1x4x128.Idx → BitVec 32) (u i w j : Nat) : BitVec 32 :=
  X2 (ix4 (Fin.ofNat 96 (8 * (u / 2) + i)) 0 (Fin.ofNat 4 (2 * (u % 2) + w)) (Fin.ofNat 128 j))

/-- The packed codes of two words, field `l`, at row `i` of the tables. -/
def code1 (X7 : S3x8x128.Idx → BitVec 32) (a b : BitVec 32) (l i : Nat) : BitVec 32 :=
  (IntOp.shrui .vector (X7 (ix3 0 (Fin.ofNat 8 i) (Fin.ofNat 128 (IntOp.shrui .vector a (BitVec.ofNat 32 (8 * l))).toNat)))
      (IntOp.shrui .vector a (BitVec.ofNat 32 (8 * l + 6)) &&& 2#32) &&& 858993459#32)
    + X7 (ix3 1 (Fin.ofNat 8 i) (Fin.ofNat 128 (IntOp.shrui .vector b (BitVec.ofNat 32 (7 * l))).toNat))

/-- The codes a step leaves. -/
def codesOf (X2 : S96x1x4x128.Idx → BitVec 32) (X7 : S3x8x128.Idx → BitVec 32) (y : S24x32x128.Idx) : BitVec 32 :=
  code1 X7 (word1 X2 (y 0).val ((y 1).val % 8) 0 (y 2).val) (word1 X2 (y 0).val ((y 1).val % 8) 1 (y 2).val) ((y 1).val / 8) ((y 1).val % 8)

section Words

variable {F : FTy → Type} [FloatOps F] (c : Dev nD) (M2 : Memref sig .tc .vmem S96x1x4x128 .i32) (h2 : M2.IsWhole) (f2 : Bf (F := F) c M2)

/-- A loaded row of packed words, at an element. -/
theorem wordV_apply (u w : Nat) (hu : u < 24) (hw : w < 2) (i : Fin 8) (j : Fin 128) (ρ : Nat) (hρ : ρ + 28 < 384) (he : ρ = 32 * (u / 2) + 2 * (u % 2) + w) :
    wordV c M2 h2 f2 ρ hρ (ix2 i j) = word1 (M2.view.read (Elt F) f2) u i.val w j.val := by
  subst he
  have hi := i.isLt
  have hj := j.isLt
  unfold wordV word1
  rw [View.readAt_apply]
  show M2.view.read (Elt F) f2 (Shape.reshapeEquiv _ _) = _
  refine congrArg (M2.view.read (Elt F) f2) (Shape.reshapeEquiv_eq_of_rowMajor _ ?_)
  rw [rowMajor_val4 _ 512 512 128 rfl rfl rfl, rowMajor_val2 _ 128 rfl]
  simp only [LoadRect.idx_apply]
  simp [Fin.ofNat, Fin.val_ofNat]
  omega

/-- A loaded table, at an element. -/
theorem tableV_apply (s7 : Bf (F := F) c tabM) (k : Nat) (hk : k < 3) (i : Fin 8) (j : Fin 128) :
    shapeCast S8x128 (tableV c s7 k hk) shapeCasts_S1x8x128_S8x128 (ix2 i j) = tabM.view.read (Elt F) s7 (ix3 ⟨k, hk⟩ i j) := by
  rw [shapeCast_dropUnit_apply]
  unfold tableV
  rw [View.readAt_apply]
  refine congrArg (tabM.view.read (Elt F) s7) ?_
  funext a
  fin_cases a <;> (apply Fin.ext; simp [LoadRect.idx_apply, ix3]; rfl)

end Words

section Codes

variable {F : FTy → Type} [FloatOps F]

/-- The cast to an index per element and back changes nothing. -/
theorem lanes_apply (v : IVec S8x128 32) : lanes v = v := by
  unfold lanes
  rw [shapeCast_shapeCast]

/-- A stored row of codes, at an element. -/
theorem codeV_apply (a b : Vec F S8x128 .i32) (t0 t1 : Vec F S1x8x128 .i32) (X7 : S3x8x128.Idx → BitVec 32)
    (h0 : ∀ (i : Fin 8) (j : Fin 128), shapeCast S8x128 t0 shapeCasts_S1x8x128_S8x128 (ix2 i j) = X7 (ix3 0 i j))
    (h1 : ∀ (i : Fin 8) (j : Fin 128), shapeCast S8x128 t1 shapeCasts_S1x8x128_S8x128 (ix2 i j) = X7 (ix3 1 i j))
    (l : Nat) (i : Fin 8) (j : Fin 128) :
    codeV a b t0 t1 l (ix2 i j) = code1 X7 (a (ix2 i j)) (b (ix2 i j)) l i.val := by
  unfold codeV code1
  simp only [shapeCast_self, lanes_apply]
  have ei : Fin.ofNat 8 i.val = i := Fin.ext (by simp [Fin.ofNat])
  rw [ei, ← h0, ← h1]
  have e2 : ∀ (x : IVec S8x128 32) (v : Nat) (hv : v < 128), (⟨v, hv⟩ : Fin 128).val = ((x (ix2 i j))).toNat % 128 →
      dynamicGather 1 (shapeCast S8x128 t0 shapeCasts_S1x8x128_S8x128) x (ix2 i j) = shapeCast S8x128 t0 shapeCasts_S1x8x128_S8x128 (ix2 i ⟨v, hv⟩) := by
    intro x v hv h
    rw [dynamicGather_apply]
    refine congrArg _ ?_
    funext a; fin_cases a
    · rfl
    · apply Fin.ext; simp [ix2]; exact h.symm
  have e3 : ∀ (x : IVec S8x128 32) (v : Nat) (hv : v < 128), (⟨v, hv⟩ : Fin 128).val = ((x (ix2 i j))).toNat % 128 →
      dynamicGather 1 (shapeCast S8x128 t1 shapeCasts_S1x8x128_S8x128) x (ix2 i j) = shapeCast S8x128 t1 shapeCasts_S1x8x128_S8x128 (ix2 i ⟨v, hv⟩) := by
    intro x v hv h
    rw [dynamicGather_apply]
    refine congrArg _ ?_
    funext a; fin_cases a
    · rfl
    · apply Fin.ext; simp [ix2]; exact h.symm
  show (IntOp.shrui .vector (dynamicGather 1 _ _ (ix2 i j)) _ &&& _) + dynamicGather 1 _ _ (ix2 i j) = _
  rw [e2 _ _ _ rfl, e3 _ _ _ rfl]
  rfl

variable (c : Dev nD) (M2 : Memref sig .tc .vmem S96x1x4x128 .i32) (h2 : M2.IsWhole) (f2 : Bf (F := F) c M2) (s7 : Bf (F := F) c tabM)

/-- A field's piece holds the codes of its place. -/
theorem codePiece_apply (u l : Nat) (hu : u < 24) (hl : l < 4) (x : (codePiece c M2 h2 f2 s7 u l hu hl).1.shape.Idx) :
    (codePiece c M2 h2 f2 s7 u l hu hl).2 x
      = codesOf (M2.view.read (Elt F) f2) (tabM.view.read (Elt F) s7) ((codePiece c M2 h2 f2 s7 u l hu hl).1.emb x) := by
  let i : Fin 8 := x 1
  let j : Fin 128 := x 2
  have hi := i.isLt
  have e0 : (((codePiece c M2 h2 f2 s7 u l hu hl).1.emb x) 0).val = u := by
    have : (x 0).val < 1 := (x 0).isLt
    rw [Rect.emb_apply]; simp [codePiece, codeRect, Rect.within, Rect.consLift, Rect.unit]; omega
  have e1 : (((codePiece c M2 h2 f2 s7 u l hu hl).1.emb x) 1).val = 8 * l + i.val := by
    rw [Rect.emb_apply]; change 0 + 8 * l + 1 * (x 1).val = 8 * l + (x 1).val; omega
  have e2 : (((codePiece c M2 h2 f2 s7 u l hu hl).1.emb x) 2).val = j.val := by
    rw [Rect.emb_apply]; change 0 + 0 + 1 * (x 2).val = (x 2).val; omega
  unfold codesOf
  rw [e0, e1, e2, show (8 * l + i.val) % 8 = i.val by omega, show (8 * l + i.val) / 8 = l by omega]
  unfold codePiece
  dsimp only
  refine (Rect.payAlong_consLift (r := codeBase l hl) ![1, 32, 128] rfl (fun a => by fin_cases a <;> rfl) _ (codeRect_numel u l hu hl) x (ix2 i j) (fun a => by fin_cases a <;> rfl)).trans ?_
  rw [codeV_apply _ _ _ _ (tabM.view.read (Elt F) s7) (tableV_apply c s7 0 (by omega)) (tableV_apply c s7 1 (by omega)),
    wordV_apply c M2 h2 f2 u 0 hu (by omega) i j _ _ (by omega), wordV_apply c M2 h2 f2 u 1 hu (by omega) i j _ _ (by omega)]

/-- Every store of codes is that of some unit and field. -/
theorem mem_codePieces : ∀ (n : Nat) (hn : n ≤ 96) (p : View.Piece (Elt F) S24x32x128 .i32), p ∈ codePieces c M2 h2 f2 s7 n hn →
    ∃ (u l : Nat) (hu : u < 24) (hl : l < 4), p = codePiece c M2 h2 f2 s7 u l hu hl
  | 0, _, _, h => by simp [codePieces] at h
  | n + 1, hn, p, h => by
    rw [codePieces, List.mem_cons] at h
    rcases h with h | h
    · exact ⟨_, _, _, _, h⟩
    · exact mem_codePieces n _ p h

/-- The store of codes of every unit and field is made. -/
theorem codePiece_mem (m : Nat) : ∀ (n : Nat) (hn : n ≤ 96) (h : m < n), codePiece c M2 h2 f2 s7 (m / 4) (m % 4) (by omega) (by omega) ∈ codePieces c M2 h2 f2 s7 n hn
  | 0, _, h => absurd h (by omega)
  | n + 1, hn, h => by
    rw [codePieces, List.mem_cons]
    rcases Nat.lt_succ_iff_lt_or_eq.mp h with h' | h'
    · exact .inr (codePiece_mem m n (by omega) h')
    · subst h'; exact .inl rfl

/-- The codes after a step, whatever they were before. -/
theorem read_codes (g : Bf (F := F) c codeM) (y : S24x32x128.Idx) :
    codeM.view.read (Elt F) (codeM.view.writes (Elt F) g (run.sl.H8_96 c M2 h2 f2 s7)) y
      = codesOf (M2.view.read (Elt F) f2) (tabM.view.read (Elt F) s7) y := by
  rw [codes_eq]
  refine View.read_writes_apply_of_pieces (Val := Elt F) (e := .i32) codeM.view g (codesOf (M2.view.read (Elt F) f2) (tabM.view.read (Elt F) s7)) _ (fun p hp x => ?_) y ?_
  · obtain ⟨u, l, hu, hl, rfl⟩ := mem_codePieces c M2 h2 f2 s7 96 le_rfl p hp
    exact codePiece_apply c M2 h2 f2 s7 u l hu hl x
  · have y0 : (y 0).val < 24 := (y 0).isLt
    have y1 : (y 1).val < 32 := (y 1).isLt
    have y2 : (y 2).val < 128 := (y 2).isLt
    refine ⟨_, codePiece_mem c M2 h2 f2 s7 (4 * (y 0).val + (y 1).val / 8) 96 le_rfl (by omega), ?_⟩
    refine (LoadRect.mem_set _).mpr fun a => ?_
    fin_cases a
    · refine ⟨0, Nat.one_pos, ?_⟩
      change (y 0).val = (4 * (y 0).val + (y 1).val / 8) / 4 + 0 + 1 * 0
      omega
    · refine ⟨(y 1).val % 8, show (y 1).val % 8 < 8 by omega, ?_⟩
      change (y 1).val = 0 + 8 * ((4 * (y 0).val + (y 1).val / 8) % 4) + 1 * ((y 1).val % 8)
      omega
    · refine ⟨(y 2).val, y2, ?_⟩
      change (y 2).val = 0 + 0 + 1 * (y 2).val
      omega

end Codes

section Levels

variable (c : Dev nD) (M2 : Memref sig .tc .vmem S96x1x4x128 .i32) (h2 : M2.IsWhole) (f2 : Bf (F := Ideal) c M2)
    (M3 : Memref sig .tc .vmem S12x256 .f16) (f3 : Bf (F := Ideal) c M3)

/-- Level `r` of a scale and a word. -/
def lev1 (d : EReal) (b : BitVec 32) (r : Fin 3) : EReal :=
  d * Ideal.ofBits .f32 0x3E800000#32 * (Ideal.ofBits .f32 0x3F000000#32 + FloatOps.sitofp (F := Ideal) .f32 (IntOp.shrui .vector b 28#32)) * Ideal.ofBits .f32 (levelBits r)

/-- The scale of unit `u` at lane `j`. -/
def scale1 (X3 : S12x256.Idx → EReal) (u j : Nat) : EReal := X3 (ix2 (Fin.ofNat 12 (u / 2)) (Fin.ofNat 256 (128 * (u % 2) + j)))

/-- The levels a step leaves: three, a zero row, the three negated, two zero rows, for each of eight sub-blocks. -/
def levelsOf (X2 : S96x1x4x128.Idx → BitVec 32) (X3 : S12x256.Idx → EReal) (y : S24x72x128.Idx) : EReal :=
  if (y 1).val % 9 < 8 ∧ (y 1).val % 9 % 4 < 3 then
    if (y 1).val % 9 < 4 then lev1 (scale1 X3 (y 0).val (y 2).val) (word1 X2 (y 0).val ((y 1).val / 9) 1 (y 2).val) (Fin.ofNat 3 ((y 1).val % 9 % 4))
    else 0 - lev1 (scale1 X3 (y 0).val (y 2).val) (word1 X2 (y 0).val ((y 1).val / 9) 1 (y 2).val) (Fin.ofNat 3 ((y 1).val % 9 % 4))
  else 0

/-- The scales of a step: the block, widened and quartered. -/
theorem scaleV_apply (x : S12x256.Idx) : scaleV c M3 f3 x = M3.view.read (Elt Ideal) f3 x * Ideal.ofBits .f32 0x3E800000#32 := by
  unfold scaleV k0_pay36
  simp only [shapeCast_self]
  refine congrArg (· * Ideal.ofBits .f32 0x3E800000#32) (congrArg (M3.view.read (Elt Ideal) f3) ?_)
  funext a
  fin_cases a <;> (apply Fin.ext; simp [LoadRect.idx_apply])

/-- A stored row of levels, at an element: a level, or its negative. -/
theorem levelV_apply (d : FVec Ideal S12x256 .f32) (b : Vec Ideal S8x128 .i32) (sb h : Nat) (hsb : sb < 12) (hh : h < 2) (r : Fin 3) (neg : Bool) (i : Fin 8) (j : Fin 128) (X : EReal)
    (hX : d (ix2 ⟨sb, hsb⟩ ⟨128 * h + j.val, by omega⟩) = X * Ideal.ofBits .f32 0x3E800000#32) :
    levelV d b sb h hsb hh r neg (ix2 i j) = bif neg then 0 - lev1 X (b (ix2 i j)) r else lev1 X (b (ix2 i j)) r := by
  have e : (broadcastTo S8x128 (extractStridedSlice S1x128 ![sb, 128 * h] d (slices_d hsb hh)) broadcasts_S1x128_S8x128 : FVec Ideal S8x128 .f32) (ix2 i j)
      = X * Ideal.ofBits .f32 0x3E800000#32 := by
    rw [← hX, broadcastTo_apply _ _ _ (ix2 0 j) (fun a => by fin_cases a <;> rfl)]
    exact extractStridedSlice_apply _ _ _ _ _ (fun a => by fin_cases a <;> rfl)
  cases neg
  · unfold levelV lev1
    simp only [shapeCast_self]
    rw [← e]; rfl
  · unfold levelV lev1
    simp only [shapeCast_self]
    rw [← e]
    show Ideal.ofBits .f32 0x00000000#32 - _ = (0 : EReal) - _
    rw [show Ideal.ofBits .f32 0x00000000#32 = 0 from Ideal.ofBits_zero_f32]
    rfl

/-- A level's piece holds the levels of its place. -/
theorem levPiece_apply (u n : Nat) (hu : u < 24) (hn : n < 6) (x : (levPiece c M2 h2 f2 M3 f3 u n hu hn).1.shape.Idx) :
    (levPiece c M2 h2 f2 M3 f3 u n hu hn).2 x
      = levelsOf (M2.view.read (Elt Ideal) f2) (M3.view.read (Elt Ideal) f3) ((levPiece c M2 h2 f2 M3 f3 u n hu hn).1.emb x) := by
  let i : Fin 8 := x 1
  let j : Fin 128 := x 2
  have hi := i.isLt
  have hj := j.isLt
  have e0 : (((levPiece c M2 h2 f2 M3 f3 u n hu hn).1.emb x) 0).val = u := by
    have : (x 0).val < 1 := (x 0).isLt
    rw [Rect.emb_apply]; change u + 0 + 1 * (x 0).val = u; omega
  have e1 : (((levPiece c M2 h2 f2 M3 f3 u n hu hn).1.emb x) 1).val = 9 * i.val + levRow n := by
    rw [Rect.emb_apply]; change 0 + levRow n + 9 * (x 1).val = 9 * (x 1).val + levRow n; omega
  have e2 : (((levPiece c M2 h2 f2 M3 f3 u n hu hn).1.emb x) 2).val = j.val := by
    rw [Rect.emb_apply]; change 0 + 0 + 1 * (x 2).val = (x 2).val; omega
  have hr : levRow n = n / 2 + 4 * (n % 2) := rfl
  unfold levelsOf
  rw [e0, e1, e2, show (9 * i.val + levRow n) % 9 = levRow n by omega, show (9 * i.val + levRow n) / 9 = i.val by omega,
    if_pos (by omega), show levRow n % 4 = n / 2 by omega]
  unfold levPiece
  dsimp only
  refine (Rect.payAlong_consLift (r := levBase (levRow n) (by omega)) ![1, 72, 128] rfl (fun a => by fin_cases a <;> rfl) _ (levRect_numel u (levRow n) hu (by omega)) x (ix2 i j) (fun a => by fin_cases a <;> rfl)).trans ?_
  rw [levelV_apply _ _ _ _ _ _ _ _ i j (scale1 (M3.view.read (Elt Ideal) f3) u j.val),
    wordV_apply c M2 h2 f2 u 1 hu (by omega) i j _ _ (by omega)]
  · rw [show (⟨n / 2, by omega⟩ : Fin 3) = Fin.ofNat 3 (n / 2) from Fin.ext (by simp [Fin.ofNat]; omega)]
    by_cases h : n % 2 = 1
    · rw [if_neg (by omega), show (n % 2 == 1) = true by simp [h]]; rfl
    · rw [if_pos (by omega), show (n % 2 == 1) = false by simp [h]]; rfl
  · rw [scaleV_apply]
    unfold scale1
    refine congrArg (· * Ideal.ofBits .f32 0x3E800000#32) (congrArg (M3.view.read (Elt Ideal) f3) ?_)
    funext a
    fin_cases a <;> (apply Fin.ext; simp [ix2, Fin.ofNat]; omega)

/-- Every store of levels is that of some unit and row. -/
theorem mem_levPieces : ∀ (n : Nat) (hn : n ≤ 144) (p : View.Piece (Elt Ideal) S24x72x128 .f32), p ∈ levPieces c M2 h2 f2 M3 f3 n hn →
    ∃ (u l : Nat) (hu : u < 24) (hl : l < 6), p = levPiece c M2 h2 f2 M3 f3 u l hu hl
  | 0, _, _, h => by simp [levPieces] at h
  | n + 1, hn, p, h => by
    rw [levPieces, List.mem_cons] at h
    rcases h with h | h
    · exact ⟨_, _, _, _, h⟩
    · exact mem_levPieces n _ p h

/-- The store of levels of every unit and row is made. -/
theorem levPiece_mem (m : Nat) : ∀ (n : Nat) (hn : n ≤ 144) (h : m < n), levPiece c M2 h2 f2 M3 f3 (m / 6) (m % 6) (by omega) (by omega) ∈ levPieces c M2 h2 f2 M3 f3 n hn
  | 0, _, h => absurd h (by omega)
  | n + 1, hn, h => by
    rw [levPieces, List.mem_cons]
    rcases Nat.lt_succ_iff_lt_or_eq.mp h with h' | h'
    · exact .inr (levPiece_mem m n (by omega) h')
    · subst h'; exact .inl rfl

/-- The levels after a step, the rows no level takes having been zero. -/
theorem read_levs (g : Bf (F := Ideal) c levM) (y : S24x72x128.Idx)
    (hg : ¬ ((y 1).val % 9 < 8 ∧ (y 1).val % 9 % 4 < 3) → levM.view.read (Elt Ideal) g y = (0 : EReal)) :
    levM.view.read (Elt Ideal) (levM.view.writes (Elt Ideal) g (run.sl.H9_144 c M2 h2 M3 f2 f3)) y
      = levelsOf (M2.view.read (Elt Ideal) f2) (M3.view.read (Elt Ideal) f3) y := by
  rw [levs_eq]
  have y0 : (y 0).val < 24 := (y 0).isLt
  have y1 : (y 1).val < 72 := (y 1).isLt
  have y2 : (y 2).val < 128 := (y 2).isLt
  by_cases hc : (y 1).val % 9 < 8 ∧ (y 1).val % 9 % 4 < 3
  · refine View.read_writes_apply_of_pieces (Val := Elt Ideal) (e := .f32) levM.view g (levelsOf (M2.view.read (Elt Ideal) f2) (M3.view.read (Elt Ideal) f3)) _ (fun p hp x => ?_) y ?_
    · obtain ⟨u, l, hu, hl, rfl⟩ := mem_levPieces c M2 h2 f2 M3 f3 144 le_rfl p hp
      exact levPiece_apply c M2 h2 f2 M3 f3 u l hu hl x
    · refine ⟨_, levPiece_mem c M2 h2 f2 M3 f3 (6 * (y 0).val + (2 * ((y 1).val % 9 % 4) + (y 1).val % 9 / 4)) 144 le_rfl (by omega), ?_⟩
      refine (LoadRect.mem_set _).mpr fun a => ?_
      fin_cases a
      · refine ⟨0, Nat.one_pos, ?_⟩
        change (y 0).val = (6 * (y 0).val + (2 * ((y 1).val % 9 % 4) + (y 1).val % 9 / 4)) / 6 + 0 + 1 * 0
        omega
      · refine ⟨(y 1).val / 9, show (y 1).val / 9 < 8 by omega, ?_⟩
        change (y 1).val = 0 + ((6 * (y 0).val + (2 * ((y 1).val % 9 % 4) + (y 1).val % 9 / 4)) % 6 / 2 + 4 * ((6 * (y 0).val + (2 * ((y 1).val % 9 % 4) + (y 1).val % 9 / 4)) % 6 % 2)) + 9 * ((y 1).val / 9)
        obtain ⟨m, hm⟩ : ∃ m, m = 2 * ((y 1).val % 9 % 4) + (y 1).val % 9 / 4 := ⟨_, rfl⟩
        have hm6 : (6 * (y 0).val + m) % 6 = m := by omega
        rw [← hm, hm6]
        omega
      · refine ⟨(y 2).val, y2, ?_⟩
        change (y 2).val = 0 + 0 + 1 * (y 2).val
        omega
  · rw [View.read_writes_apply_of_forall_not_mem, hg hc]
    · unfold levelsOf; rw [if_neg hc]
    · intro p hp hy
      obtain ⟨u, l, hu, hl, rfl⟩ := mem_levPieces c M2 h2 f2 M3 f3 144 le_rfl p hp
      obtain ⟨k, hk, e⟩ := (LoadRect.mem_set _).mp hy 1
      have hk' : k < 8 := hk
      change (y 1).val = 0 + (l / 2 + 4 * (l % 2)) + 9 * k at e
      have e9 : (y 1).val % 9 = l / 2 + 4 * (l % 2) := by omega
      exact hc (by rw [e9]; omega)

end Levels

end Cert.KernelIdeal.Body

end
-- ==== Proof.InitElem.lean ====
module

public import proofs.«01_k».proof.Proof.Init
public import Idealize.ShloMosaic.Lib.ValueIdx
public import Idealize.ShloMosaic.Lib.Pointwise
public import Idealize.ShloMosaic.Lib.Pipeline.Value
public import Idealize.ShloMosaic.Lib.Writes

@[expose] public section

set_option maxRecDepth 65536
set_option maxHeartbeats 1000000

noncomputable section

/-! What the first step's preparation leaves in the scratch, element by element. -/

namespace Cert.KernelIdeal.Body

open Cert.KernelIdeal Cert.KernelIdeal.Gen
open Idealize.ShloMosaic Idealize.ShloMosaic.TcCoe

/-- The digit of an entry of the grid: which of the three levels it is. -/
def digitW (g : BitVec 8) : BitVec 32 :=
  Scalar.select (IntOp.cmpi .slt (g.setWidth 32) 16#32) 0#32 (Scalar.select (IntOp.cmpi .sgt (g.setWidth 32) 32#32) 2#32 1#32)

/-- Bit `j` of a sign code with its parity as an eighth bit. -/
def signW (c j : BitVec 32) : BitVec 32 :=
  have p : BitVec 32 := c ^^^ IntOp.shrsi .vector c 4#32
  have q : BitVec 32 := p ^^^ IntOp.shrsi .vector p 2#32
  have r : BitVec 32 := (q ^^^ IntOp.shrsi .vector q 1#32) &&& 1#32
  IntOp.shrsi .vector (c ||| IntOp.shli .vector r 7#32) j &&& 1#32

/-- Eight words' bits together. -/
def orRows (x : Fin 8 → BitVec 32) : BitVec 32 :=
  x 0 ||| x 1 ||| x 2 ||| x 3 ||| x 4 ||| x 5 ||| x 6 ||| x 7

/-- The tables: packed pairs of digits, packed signs, shift amounts. -/
def tablesOf (X4 : S8x256.Idx → BitVec 8) (y : S3x8x128.Idx) : BitVec 32 :=
  if (y 0).val = 0 then
    orRows fun r => IntOp.shli .vector (digitW (X4 (ix2 r (Fin.ofNat 256 (y 2).val)))
      ||| IntOp.shli .vector (digitW (X4 (ix2 r (Fin.ofNat 256 (128 + (y 2).val))))) 2#32) (4#32 * BitVec.ofNat 32 r.val)
  else if (y 0).val = 1 then
    orRows fun r => IntOp.shli .vector ((4#32 * signW (BitVec.ofNat 32 (y 2).val) (BitVec.ofNat 32 r.val) - BitVec.ofNat 32 r.val) &&& 7#32)
      (4#32 * BitVec.ofNat 32 r.val)
  else 4#32 * BitVec.ofNat 32 (y 1).val

/-- A row cut out, at an element. -/
theorem row_apply (x : IVec S8x128 32) (r : Fin 8) (h : S8x128.Slices ![r.val, 0] S1x128) (j : Fin 128) :
    extractStridedSlice S1x128 ![r.val, 0] x h (ix2 0 j) = x (ix2 r j) :=
  extractStridedSlice_apply _ _ _ _ _ (fun a => by
    fin_cases a
    · rfl
    · show j.val = 0 + j.val; omega)

/-- The row numbers, at an element. -/
theorem iota0_apply (i : Fin 8) (j : Fin 128) : iota .tc S8x128 32 [0] iota_S8x128_d0_w32 (ix2 i j) = BitVec.ofNat 32 i.val :=
  congrArg (BitVec.ofNat 32) (show 0 * 8 + i.val = i.val by omega)

/-- The lane numbers, at an element. -/
theorem iota1_apply (i : Fin 8) (j : Fin 128) : iota .tc S8x128 32 [1] iota_S8x128_d1_w32 (ix2 i j) = BitVec.ofNat 32 j.val :=
  congrArg (BitVec.ofNat 32) (show 0 * 128 + j.val = j.val by omega)

/-- The rows of a vector or-ed together, in every row of a one-block vector. -/
def fold8 (x : IVec S8x128 32) : IVec S1x8x128 32 :=
  shapeCast S1x8x128 (broadcastTo S8x128 (shapeCast S1x128 (ori (ori (ori (ori (ori (ori (ori
    (extractStridedSlice S1x128 ![0, 0] x slices_S8x128_o0_0_S1x128) (extractStridedSlice S1x128 ![1, 0] x slices_S8x128_o1_0_S1x128))
    (extractStridedSlice S1x128 ![2, 0] x slices_S8x128_o2_0_S1x128)) (extractStridedSlice S1x128 ![3, 0] x slices_S8x128_o3_0_S1x128))
    (extractStridedSlice S1x128 ![4, 0] x slices_S8x128_o4_0_S1x128)) (extractStridedSlice S1x128 ![5, 0] x slices_S8x128_o5_0_S1x128))
    (extractStridedSlice S1x128 ![6, 0] x slices_S8x128_o6_0_S1x128)) (extractStridedSlice S1x128 ![7, 0] x slices_S8x128_o7_0_S1x128))
    shapeCasts_S1x128_S1x128) broadcasts_S1x128_S8x128) shapeCasts_S8x128_S1x8x128

/-- The eight rows joined and repeated, at an element. -/
theorem fold8_apply (x : IVec S8x128 32) (z : S1x8x128.Idx) (j : Fin 128) (hj : j = z 2) : fold8 x z = orRows fun r => x (ix2 r j) := by
  unfold fold8
  refine (shapeCast_addUnit_apply ![8, 128] _ shapeCasts_S8x128_S1x8x128 z).trans ?_
  refine (broadcastTo_apply _ _ _ (ix2 0 j) (fun a => by subst hj; fin_cases a <;> rfl)).trans ?_
  rw [shapeCast_self]
  unfold orRows
  dsimp only
  rw [← row_apply x 0 slices_S8x128_o0_0_S1x128, ← row_apply x 1 slices_S8x128_o1_0_S1x128, ← row_apply x 2 slices_S8x128_o2_0_S1x128,
    ← row_apply x 3 slices_S8x128_o3_0_S1x128, ← row_apply x 4 slices_S8x128_o4_0_S1x128, ← row_apply x 5 slices_S8x128_o5_0_S1x128,
    ← row_apply x 6 slices_S8x128_o6_0_S1x128, ← row_apply x 7 slices_S8x128_o7_0_S1x128]
  rfl

section

variable {F : FTy → Type} [FloatOps F] (c : Dev nD)
    (M1 : Memref sig .tc .vmem S128x3072 .bf16) (f1 : Bf (F := F) c M1) (M4 : Memref sig .tc .vmem S8x256 .i8) (f4 : Bf (F := F) c M4)

/-- The table of digits is the eight rows of digit pairs, each in its place, joined. -/
theorem pairs_eq : initRun.sl.v11068_r0 c M4 f4
    = fold8 (shli (k0_pay1 (F := F) (View.readAt (Elt F) M4.view (Rect.unit (s := S8x256) ![0, 0] S8x256.size inb_S8x256_S8x256_0_0).toLoadRect f4)) k0_pay3) := rfl

/-- The table of signs is the eight rows of sign places, each in its place, joined. -/
theorem signs_eq : initRun.sl.v11091_r0
    = fold8 (shli k0_pay2 (muli (broadcast S8x128 4#32) (iota .tc S8x128 32 [0] iota_S8x128_d0_w32))) := rfl

/-- The sign's place value, at an element. -/
theorem pay2_apply (i : Fin 8) (j : Fin 128) :
    k0_pay2 (ix2 i j) = (4#32 * signW (BitVec.ofNat 32 j.val) (BitVec.ofNat 32 i.val) - BitVec.ofNat 32 i.val) &&& 7#32 := by
  rw [← iota0_apply i j, ← iota1_apply i j]; rfl

/-- The pair of digits of two grid rows, at an element. -/
theorem pay1_apply (g : Vec F S8x256 .i8) (i : Fin 8) (j : Fin 128) :
    k0_pay1 (F := F) g (ix2 i j) = digitW (g (ix2 i (Fin.ofNat 256 j.val))) ||| IntOp.shli .vector (digitW (g (ix2 i (Fin.ofNat 256 (128 + j.val))))) 2#32 := by
  have hj := j.isLt
  unfold k0_pay1
  simp only [shapeCast_self]
  show IntOp.ori (extractStridedSlice (s := S8x256) S8x128 ![0, 0] _ _ (ix2 i j)) (IntOp.shli .vector (extractStridedSlice (s := S8x256) S8x128 ![0, 128] _ _ (ix2 i j)) 2#32) = _
  rw [extractStridedSlice_apply _ _ _ _ (ix2 i (Fin.ofNat 256 j.val)) (fun a => by
      fin_cases a
      · show i.val = 0 + i.val; omega
      · show j.val % 256 = 0 + j.val; omega),
    extractStridedSlice_apply _ _ _ _ (ix2 i (Fin.ofNat 256 (128 + j.val))) (fun a => by
      fin_cases a
      · show i.val = 0 + i.val; omega
      · show (128 + j.val) % 256 = 128 + j.val; omega)]
  rfl

/-- The first table: the digits. -/
theorem tablesOf_0 (X4 : S8x256.Idx → BitVec 8) (i : Fin 8) (j : Fin 128) : tablesOf X4 (ix3 ⟨0, by omega⟩ i j)
    = orRows fun r => IntOp.shli .vector (digitW (X4 (ix2 r (Fin.ofNat 256 j.val)))
      ||| IntOp.shli .vector (digitW (X4 (ix2 r (Fin.ofNat 256 (128 + j.val))))) 2#32) (4#32 * BitVec.ofNat 32 r.val) := if_pos rfl

/-- The second table: the signs. -/
theorem tablesOf_1 (X4 : S8x256.Idx → BitVec 8) (i : Fin 8) (j : Fin 128) : tablesOf X4 (ix3 ⟨1, by omega⟩ i j)
    = orRows fun r => IntOp.shli .vector ((4#32 * signW (BitVec.ofNat 32 j.val) (BitVec.ofNat 32 r.val) - BitVec.ofNat 32 r.val) &&& 7#32)
      (4#32 * BitVec.ofNat 32 r.val) := (if_neg Nat.one_ne_zero).trans (if_pos rfl)

/-- The third table: the shifts. -/
theorem tablesOf_2 (X4 : S8x256.Idx → BitVec 8) (i : Fin 8) (j : Fin 128) : tablesOf X4 (ix3 ⟨2, by omega⟩ i j) = 4#32 * BitVec.ofNat 32 i.val :=
  (if_neg (show ¬ (2 = 0) by omega)).trans (if_neg (show ¬ (2 = 1) by omega))

/-- The load of the whole grid block is the block. -/
theorem whole4 : (View.readAt (Elt F) M4.view (Rect.unit (s := S8x256) ![0, 0] S8x256.size inb_S8x256_S8x256_0_0).toLoadRect f4 : S8x256.Idx → BitVec 8)
      = M4.view.read (Elt F) f4 := by
  funext y
  refine (View.readAt_apply _ _ _).trans (congrArg (M4.view.read (Elt F) f4) ?_)
  funext a
  apply Fin.ext
  fin_cases a
  · change 0 + 1 * (y 0).val = (y 0).val; omega
  · change 0 + 1 * (y 1).val = (y 1).val; omega

/-- What is stored as the table of digits. -/
theorem pairs_apply (x : S1x8x128.Idx) (i : Fin 8) (j : Fin 128) (hj : j = x 2) :
    initRun.sl.v11068_r0 c M4 f4 x = tablesOf (M4.view.read (Elt F) f4) (ix3 ⟨0, by omega⟩ i j) := by
  rw [pairs_eq]
  refine (fold8_apply _ x j hj).trans ?_
  rw [whole4, tablesOf_0]
  refine congrArg orRows (funext fun r => ?_)
  rw [← pay1_apply (F := F), ← iota0_apply r j]
  rfl

/-- What is stored as the table of signs. -/
theorem signs_apply (X4 : S8x256.Idx → BitVec 8) (x : S1x8x128.Idx) (i : Fin 8) (j : Fin 128) (hj : j = x 2) :
    initRun.sl.v11091_r0 x = tablesOf X4 (ix3 ⟨1, by omega⟩ i j) := by
  rw [signs_eq]
  refine (fold8_apply _ x j hj).trans ?_
  rw [tablesOf_1]
  refine congrArg orRows (funext fun r => ?_)
  rw [← pay2_apply]
  exact congrArg (fun v => IntOp.shli .vector (k0_pay2 (ix2 r j)) (4#32 * v)) (iota0_apply r j)

/-- What is stored as the table of shifts. -/
theorem shifts_apply (X4 : S8x256.Idx → BitVec 8) (x : S1x8x128.Idx) (i : Fin 8) (j : Fin 128) (hi : i = x 1) :
    k0_pay7 (muli initRun.sl.v11019_r0 initRun.sl.v11017_r0) x = tablesOf X4 (ix3 ⟨2, by omega⟩ i j) := by
  rw [tablesOf_2]
  refine (shapeCast_addUnit_apply ![8, 128] (muli initRun.sl.v11019_r0 initRun.sl.v11017_r0) shapeCasts_S8x128_S1x8x128 x).trans ?_
  subst hi
  exact congrArg (4#32 * ·) (congrArg (BitVec.ofNat 32) (show 0 * 8 + (x 1).val = (x 1).val by omega))

/-- Where table `k` lies in the scratch. -/
theorem tab_emb (k : Nat) (hk : k < 3) (inb) (z : (Rect.unit (s := S3x8x128) ![k, 0, 0] S1x8x128.size inb).shape.Idx) :
    (Rect.unit (s := S3x8x128) ![k, 0, 0] S1x8x128.size inb).emb z = ix3 ⟨k, hk⟩ (z 1) (z 2) := by
  have h0 : (z 0).val < 1 := (z 0).isLt
  funext a
  apply Fin.ext
  rw [Rect.emb_apply]
  fin_cases a
  · change k + 1 * (z 0).val = k; omega
  · change 0 + 1 * (z 1).val = (z 1).val; omega
  · change 0 + 1 * (z 2).val = (z 2).val; omega

/-- The three pieces the tables are stored as. -/
theorem tables_piece (p : View.Piece (Elt F) S3x8x128 .i32) (hp : p ∈ initRun.sl.H7_3 c M4 f4) (x : p.1.shape.Idx) :
    p.2 x = tablesOf (M4.view.read (Elt F) f4) (p.1.emb x) := by
  simp only [initRun.sl.H7_3, List.mem_cons, List.not_mem_nil, or_false] at hp
  rcases hp with rfl | rfl | rfl
  · exact (shifts_apply _ x (x 1) (x 2) rfl).trans (congrArg (tablesOf _) (tab_emb 2 (by omega) inb_S3x8x128_S1x8x128_2_0_0 x)).symm
  · exact (signs_apply _ x (x 1) (x 2) rfl).trans (congrArg (tablesOf _) (tab_emb 1 (by omega) inb_S3x8x128_S1x8x128_1_0_0 x)).symm
  · exact (pairs_apply c M4 f4 x (x 1) (x 2) rfl).trans (congrArg (tablesOf _) (tab_emb 0 (by omega) inb_S3x8x128_S1x8x128_0_0_0 x)).symm

/-- The tables after the preparation. -/
theorem read_tables (g : Bf (F := F) c tabM) (y : S3x8x128.Idx) :
    tabM.view.read (Elt F) (tabM.view.writes (Elt F) g (initRun.sl.H7_3 c M4 f4)) y = tablesOf (M4.view.read (Elt F) f4) y := by
  refine View.read_writes_apply_of_pieces (Val := Elt F) (e := .i32) tabM.view g (tablesOf (M4.view.read (Elt F) f4)) _ (tables_piece c M4 f4) y ?_
  have y0 : (y 0).val < 3 := (y 0).isLt
  have y1 : (y 1).val < 8 := (y 1).isLt
  have y2 : (y 2).val < 128 := (y 2).isLt
  have hm : ∀ (k : Nat) (inb), (y 0).val = k → y ∈ (Rect.unit (s := S3x8x128) ![k, 0, 0] S1x8x128.size inb).set := by
    rintro k inb rfl
    refine Rect.mem_set_unit.mpr fun a => ?_
    fin_cases a
    · exact ⟨le_rfl, Nat.lt_succ_self _⟩
    · exact ⟨Nat.zero_le _, by show _ < 0 + 8; simpa using y1⟩
    · exact ⟨Nat.zero_le _, by show _ < 0 + 128; simpa using y2⟩
  unfold initRun.sl.H7_3
  rcases (by omega : (y 0).val = 0 ∨ (y 0).val = 1 ∨ (y 0).val = 2) with h | h | h
  · exact ⟨_, .tail _ (.tail _ (.head _)), hm 0 inb_S3x8x128_S1x8x128_0_0_0 h⟩
  · exact ⟨_, .tail _ (.head _), hm 1 inb_S3x8x128_S1x8x128_1_0_0 h⟩
  · exact ⟨_, .head _, hm 2 inb_S3x8x128_S1x8x128_2_0_0 h⟩

/-- Block `k` of 128 columns of the activations, as it is copied. -/
def xsPiece (k : Nat) (hk : k < 24) : View.Piece (Elt F) S24x128x128 .bf16 :=
  ⟨Rect.unit (s := S24x128x128) ![k, 0, 0] S1x128x128.size (fun a => by fin_cases a <;> simp <;> omega),
    k0_pay10 (View.readAt (Elt F) M1.view (Rect.unit (s := S128x3072) ![0, 128 * k] S128x128.size (fun a => by fin_cases a <;> simp <;> omega)).toLoadRect f1)⟩

/-- The first `n` blocks, the last first. -/
def xsPieces : (n : Nat) → n ≤ 24 → List (View.Piece (Elt F) S24x128x128 .bf16)
  | 0, _ => []
  | n + 1, hn => xsPiece c M1 f1 n (by omega) :: xsPieces n (by omega)

/-- The stores of the activations are the 24 listed. -/
theorem xs_eq : initRun.sl.H6_24 c M1 f1 = xsPieces c M1 f1 24 le_rfl := rfl

/-- The activations' copy. -/
def xsOf {α : Type} (X1 : S128x3072.Idx → α) (y : S24x128x128.Idx) : α :=
  X1 (ix2 (y 1) (Fin.ofNat 3072 (128 * (y 0).val + (y 2).val)))

/-- A stored chunk of the activations, at an element. -/
theorem pay10_apply (v : S128x128.Idx → F .bf16) (x : S1x128x128.Idx) (i j : Fin 128) (hi : i = x 1) (hj : j = x 2) :
    k0_pay10 (F := F) v x = v (ix2 i j) := by
  show shapeCast S1x128x128 (shapeCast S128x128 v shapeCasts_S128x128_S128x128) shapeCasts_S128x128_S1x128x128 x = _
  rw [shapeCast_self]
  refine (shapeCast_addUnit_apply ![128, 128] v shapeCasts_S128x128_S1x128x128 x).trans (congrArg v ?_)
  subst hi hj
  funext a
  fin_cases a <;> rfl

/-- What is stored of the activations is their copy. -/
theorem xsPiece_apply (k : Nat) (hk : k < 24) (x : (xsPiece c M1 f1 k hk).1.shape.Idx) :
    (xsPiece c M1 f1 k hk).2 x = xsOf (M1.view.read (Elt F) f1) ((xsPiece c M1 f1 k hk).1.emb x) := by
  have x0 : (x 0).val < 1 := (x 0).isLt
  have x2 : (x 2).val < 128 := (x 2).isLt
  have e0 : ((xsPiece c M1 f1 k hk).1.emb x 0).val = k := by
    rw [Rect.emb_apply]; change k + 1 * (x 0).val = k; omega
  have e1 : ((xsPiece c M1 f1 k hk).1.emb x 1) = x 1 := by
    apply Fin.ext; rw [Rect.emb_apply]; change 0 + 1 * (x 1).val = (x 1).val; omega
  have e2 : ((xsPiece c M1 f1 k hk).1.emb x 2).val = (x 2).val := by
    rw [Rect.emb_apply]; change 0 + 1 * (x 2).val = (x 2).val; omega
  unfold xsOf
  rw [e0, e1, e2]
  refine (pay10_apply (F := F) (View.readAt (Elt F) M1.view (Rect.unit (s := S128x3072) ![0, 128 * k] S128x128.size
    (fun a => by fin_cases a <;> simp <;> omega)).toLoadRect f1) x (x 1) (x 2) rfl rfl).trans ?_
  refine (View.readAt_apply _ _ _).trans (congrArg (M1.view.read (Elt F) f1) ?_)
  funext a
  apply Fin.ext
  fin_cases a
  · change 0 + 1 * (x 1).val = (x 1).val; omega
  · change 128 * k + 1 * (x 2).val = (128 * k + (x 2).val) % 3072; omega

/-- Every store of the activations is that of some chunk. -/
theorem mem_xsPieces : ∀ (n : Nat) (hn : n ≤ 24) (p : View.Piece (Elt F) S24x128x128 .bf16), p ∈ xsPieces c M1 f1 n hn →
    ∃ (k : Nat) (hk : k < 24), p = xsPiece c M1 f1 k hk
  | 0, _, _, h => by simp [xsPieces] at h
  | n + 1, hn, p, h => by
    rw [xsPieces, List.mem_cons] at h
    rcases h with h | h
    · exact ⟨_, _, h⟩
    · exact mem_xsPieces n _ p h

/-- The store of every chunk of the activations is made. -/
theorem xsPiece_mem (m : Nat) : ∀ (n : Nat) (hn : n ≤ 24) (h : m < n), xsPiece c M1 f1 m (by omega) ∈ xsPieces c M1 f1 n hn
  | 0, _, h => absurd h (by omega)
  | n + 1, hn, h => by
    rw [xsPieces, List.mem_cons]
    rcases Nat.lt_succ_iff_lt_or_eq.mp h with h' | h'
    · exact .inr (xsPiece_mem m n (by omega) h')
    · subst h'; exact .inl rfl

/-- The activations' copy after the preparation. -/
theorem read_xs (g : Bf (F := F) c xsM) (y : S24x128x128.Idx) :
    xsM.view.read (Elt F) (xsM.view.writes (Elt F) g (initRun.sl.H6_24 c M1 f1)) y = xsOf (M1.view.read (Elt F) f1) y := by
  rw [xs_eq]
  have y0 : (y 0).val < 24 := (y 0).isLt
  have y1 : (y 1).val < 128 := (y 1).isLt
  have y2 : (y 2).val < 128 := (y 2).isLt
  refine View.read_writes_apply_of_pieces (Val := Elt F) (e := .bf16) xsM.view g (xsOf (M1.view.read (Elt F) f1)) _ (fun p hp x => ?_) y ?_
  · obtain ⟨k, hk, rfl⟩ := mem_xsPieces c M1 f1 24 le_rfl p hp
    exact xsPiece_apply c M1 f1 k hk x
  · have hm : ∀ (k : Nat) (inb), (y 0).val = k → y ∈ (Rect.unit (s := S24x128x128) ![k, 0, 0] S1x128x128.size inb).set := by
      rintro k inb rfl
      refine Rect.mem_set_unit.mpr fun a => ?_
      fin_cases a
      · exact ⟨le_rfl, Nat.lt_succ_self _⟩
      · exact ⟨Nat.zero_le _, by show _ < 0 + 128; simpa using y1⟩
      · exact ⟨Nat.zero_le _, by show _ < 0 + 128; simpa using y2⟩
    exact ⟨_, xsPiece_mem c M1 f1 (y 0).val 24 le_rfl y0, hm _ (fun a => by fin_cases a <;> simp <;> omega) rfl⟩

/-- A rectangle of the whole shape holds every element. -/
theorem mem_full {s : Shape} (off : Fin s.rank → Nat) (h : ∀ a, off a = 0) (inb) (y : s.Idx) : y ∈ (Rect.unit (s := s) off s.size inb).set :=
  Rect.mem_set_unit.mpr fun a => ⟨by rw [h]; exact Nat.zero_le _, by rw [h, Nat.zero_add]; exact (y a).isLt⟩

/-- The codes start at zero. -/
theorem read_code0 (g : Bf (F := F) c codeM) (inb) (y : S24x32x128.Idx) :
    codeM.view.read (Elt F) (codeM.view.writes (Elt F) g [⟨Rect.unit (s := S24x32x128) ![0, 0, 0] S24x32x128.size inb, k0_pay9⟩]) y = 0#32 := by
  refine View.read_writes_apply_of_pieces (Val := Elt F) (e := .i32) codeM.view g (fun _ => 0#32) _ (fun p hp x => ?_) y
    ⟨_, List.mem_singleton_self _, mem_full _ (fun a => by fin_cases a <;> rfl) inb y⟩
  obtain rfl := List.mem_singleton.mp hp
  show shapeCast S24x32x128 (broadcast S24x32x128 0#32) shapeCasts_S24x32x128_S24x32x128 x = _
  rw [shapeCast_self]; rfl

/-- So do the levels. -/
theorem read_lev0 (g : Bf (F := F) c levM) (y : S24x72x128.Idx) :
    levM.view.read (Elt F) (levM.view.writes (Elt F) g initRun.sl.H9_1) y = FloatOps.ofBits .f32 0#32 := by
  unfold initRun.sl.H9_1
  refine View.read_writes_apply_of_pieces (Val := Elt F) (e := .f32) levM.view g (fun _ => FloatOps.ofBits .f32 0#32) _ (fun p hp x => ?_) y
    ⟨_, List.mem_singleton_self _, mem_full _ (fun a => by fin_cases a <;> rfl) inb_S24x72x128_S24x72x128_0_0_0 y⟩
  obtain rfl := List.mem_singleton.mp hp
  show shapeCast S24x72x128 (broadcast S24x72x128 (FloatOps.ofBits .f32 0#32)) shapeCasts_S24x72x128_S24x72x128 x = _
  rw [shapeCast_self]; rfl

end

end Cert.KernelIdeal.Body

end
-- ==== Proof.Out.lean ====
module

public import proofs.«01_k».proof.Proof.Elem
public import Idealize.ShloMosaic.Lib.LawUnitPlain
public import Idealize.ShloMosaic.Lib.Mxu.Lemmas

@[expose] public section

set_option maxRecDepth 65536
set_option maxHeartbeats 1000000

noncomputable section

/-! The block of results a step leaves, element by element: one sum per super-block over its 256 columns. -/

namespace Cert.KernelIdeal.Body

open Cert.KernelIdeal Cert.KernelIdeal.Gen
open Idealize.ShloMosaic Idealize.ShloMosaic.TcCoe

/-- The weight at row `k`, column `n` of the tile of super-block `sb`, picked from the levels by the codes. -/
def weight1 (X7 : S3x8x128.Idx → BitVec 32) (X8 : S24x32x128.Idx → BitVec 32) (X9 : S24x72x128.Idx → EReal) (sb k n : Nat) : EReal :=
  X9 (ix3 (Fin.ofNat 24 (2 * sb + n / 128))
    (Fin.ofNat 72 (9 * (k / 32) + (IntOp.shrui .vector (X8 (ix3 (Fin.ofNat 24 (2 * sb + n / 128)) (Fin.ofNat 32 (8 * (k / 8 % 4) + k / 32)) (Fin.ofNat 128 (n % 128))))
      (X7 (ix3 2 (Fin.ofNat 8 (k % 8)) (Fin.ofNat 128 (n % 128)))) + BitVec.ofNat 32 (k % 8)).toNat % 8))
    (Fin.ofNat 128 (n % 128)))

/-- One super-block's part of a result. -/
def term1 (X6 : S24x128x128.Idx → EReal) (X7 : S3x8x128.Idx → BitVec 32) (X8 : S24x32x128.Idx → BitVec 32) (X9 : S24x72x128.Idx → EReal)
    (t n sb : Nat) : EReal :=
  ∑ k : Fin 256, X6 (ix3 (Fin.ofNat 24 (2 * sb + k.val / 128)) (Fin.ofNat 128 t) (Fin.ofNat 128 (k.val % 128))) * weight1 X7 X8 X9 sb k.val n

/-- The block of results. -/
def outOf (X6 : S24x128x128.Idx → EReal) (X7 : S3x8x128.Idx → BitVec 32) (X8 : S24x32x128.Idx → BitVec 32) (X9 : S24x72x128.Idx → EReal)
    (y : S128x256.Idx) : EReal :=
  ∑ sb ∈ Finset.range 12, term1 X6 X7 X8 X9 (y 0).val (y 1).val sb

section Tile

variable {F : FTy → Type} [FloatOps F] (c : Dev nD) (s6 : Bf (F := F) c xsM) (s7 : Bf (F := F) c tabM) (s8 : Bf (F := F) c codeM) (s9 : Bf (F := F) c levM)

/-- The eight rows of levels of a sub-block, at an element. -/
theorem pickLev_apply (u s : Nat) (hu : u < 24) (hs : s < 8) (i : Fin 8) (j : Fin 128) :
    pickLev c s9 u s hu hs (ix2 i j) = levM.view.read (Elt F) s9 (ix3 (Fin.ofNat 24 u) (Fin.ofNat 72 (9 * s + i.val)) j) := by
  have hi := i.isLt
  have hj := j.isLt
  unfold pickLev
  refine (View.readAt_apply _ _ _).trans (congrArg (levM.view.read (Elt F) s9) ?_)
  refine (congrArg (LoadRect.idx _) (Shape.reshapeEquiv_eq_of_rowMajor (y := (ix3 0 i j : (⟨3, ![1, 8, 128]⟩ : Shape).Idx)) _ ?_)).trans ?_
  rotate_left
  · funext a
    fin_cases a
    · apply Fin.ext; change u + 0 + 1 * 0 = u % 24; omega
    · apply Fin.ext; change 0 + 9 * s + 1 * i.val = (9 * s + i.val) % 72; omega
    · apply Fin.ext; change 0 + 0 + 1 * j.val = j.val; omega
  · exact (rowMajor_val3 (ix3 0 i j : (⟨3, ![1, 8, 128]⟩ : Shape).Idx) 1024 128 rfl rfl).trans
      ((show 0 * 1024 + i.val * 128 + j.val = i.val * 128 + j.val by omega).trans (rowMajor_val2 (ix2 i j : (⟨2, ![8, 128]⟩ : Shape).Idx) 128 rfl).symm)

/-- A code repeated over eight rows, at an element. -/
theorem pickCode_apply (u s l : Nat) (hu : u < 24) (hs : s < 8) (hl : l < 4) (i : Fin 8) (j : Fin 128) :
    pickCode c s8 u s l hu hs hl (ix2 i j) = codeM.view.read (Elt F) s8 (ix3 (Fin.ofNat 24 u) (Fin.ofNat 32 (8 * l + s)) j) := by
  have hi := i.isLt
  have hj := j.isLt
  unfold pickCode
  refine (View.readAt_apply _ _ _).trans (congrArg (codeM.view.read (Elt F) s8) ?_)
  refine (congrArg (LoadRect.idx _) (Shape.reshapeEquiv_eq_of_rowMajor (y := (ix3 0 i j : (⟨3, ![1, 8, 128]⟩ : Shape).Idx)) _ ?_)).trans ?_
  rotate_left
  · funext a
    fin_cases a
    · apply Fin.ext; change u + 0 + 1 * 0 = u % 24; omega
    · apply Fin.ext; change 0 + (8 * l + s) + 0 * i.val = (8 * l + s) % 32; omega
    · apply Fin.ext; change 0 + 0 + 1 * j.val = j.val; omega
  · exact (rowMajor_val3 (ix3 0 i j : (⟨3, ![1, 8, 128]⟩ : Shape).Idx) 1024 128 rfl rfl).trans
      ((show 0 * 1024 + i.val * 128 + j.val = i.val * 128 + j.val by omega).trans (rowMajor_val2 (ix2 i j : (⟨2, ![8, 128]⟩ : Shape).Idx) 128 rfl).symm)

end Tile

section Sum

variable (c : Dev nD) (s6 : Bf (F := Ideal) c xsM) (s7 : Bf (F := Ideal) c tabM) (s8 : Bf (F := Ideal) c codeM) (s9 : Bf (F := Ideal) c levM)

/-- The eight weights of a field: each the level that its code picks. -/
theorem fieldV_apply (u s l : Nat) (hu : u < 24) (hs : s < 8) (hl : l < 4) (i : Fin 8) (j : Fin 128) :
    fieldV c s7 s8 s9 u s l hu hs hl (ix2 i j) = levM.view.read (Elt Ideal) s9 (ix3 (Fin.ofNat 24 u)
      (Fin.ofNat 72 (9 * s + (IntOp.shrui .vector (codeM.view.read (Elt Ideal) s8 (ix3 (Fin.ofNat 24 u) (Fin.ofNat 32 (8 * l + s)) j))
        (tabM.view.read (Elt Ideal) s7 (ix3 2 i j)) + BitVec.ofNat 32 i.val).toNat % 8)) j) := by
  unfold fieldV
  rw [lanes_apply, dynamicGather_apply, ← pickCode_apply c s8 u s l hu hs hl i j]
  have e : tabM.view.read (Elt Ideal) s7 (ix3 2 i j) = shapeCast S8x128 (tableV c s7 2 (by omega)) shapeCasts_S1x8x128_S8x128 (ix2 i j) :=
    (tableV_apply c s7 2 (by omega) i j).symm
  rw [e]
  refine (congrArg (pickLev c s9 u s hu hs) (?_ : _ = ix2 ⟨(IntOp.shrui .vector (pickCode c s8 u s l hu hs hl (ix2 i j))
    (shapeCast S8x128 (tableV c s7 2 (by omega)) shapeCasts_S1x8x128_S8x128 (ix2 i j)) + BitVec.ofNat 32 i.val).toNat % 8, by omega⟩ j)).trans
    (pickLev_apply c s9 u s hu hs _ j)
  funext a
  fin_cases a
  · apply Fin.ext
    show (IntOp.shrui .vector (pickCode c s8 u s l hu hs hl (ix2 i j)) _ + iota .tc S8x128 32 [0] iota_S8x128_d0_w32 (ix2 i j)).toNat % 8 = _
    rw [show iota .tc S8x128 32 [0] iota_S8x128_d0_w32 (ix2 i j) = BitVec.ofNat 32 i.val from congrArg (BitVec.ofNat 32) (show 0 * 8 + i.val = i.val by omega)]
    rfl
  · rfl

/-- The weights of one half of the columns, at an element. -/
theorem halfV_apply (u : Nat) (hu : u < 24) (k : Fin 256) (j : Fin 128) :
    halfV c s7 s8 s9 u hu (ix2 k j) = fieldV c s7 s8 s9 u (k.val / 32) (k.val / 8 % 4) hu (by omega) (by omega) (ix2 ⟨k.val % 8, by omega⟩ j) := by
  have hk := k.isLt
  unfold halfV
  refine (concatenate_ofFn_apply (t := S256x128) (s₁ := S8x128) 0 _ _ rfl 8 rfl (ix2 k j) ⟨k.val / 8, by omega⟩ rfl (ix2 ⟨k.val % 8, by omega⟩ j) rfl ?_).trans ?_
  · intro b hb; fin_cases b
    · exact absurd rfl hb
    · rfl
  · simp only [Nat.div_div_eq_div_mul]

/-- The tile of weights of a super-block, at an element. -/
theorem tileV_apply (n : Nat) (hn : n < 12) (k j : Fin 256) :
    tileV c s7 s8 s9 n hn (ix2 k j) = weight1 (tabM.view.read (Elt Ideal) s7) (codeM.view.read (Elt Ideal) s8) (levM.view.read (Elt Ideal) s9) n k.val j.val := by
  have hk := k.isLt
  have hj := j.isLt
  have key : ∀ h, h < 2 → (hu : 2 * n + h < 24) → j.val / 128 = h → halfV c s7 s8 s9 (2 * n + h) hu (ix2 k ⟨j.val % 128, by omega⟩)
      = weight1 (tabM.view.read (Elt Ideal) s7) (codeM.view.read (Elt Ideal) s8) (levM.view.read (Elt Ideal) s9) n k.val j.val := by
    rintro h hh hu rfl
    rw [halfV_apply, fieldV_apply]
    unfold weight1
    rw [show (Fin.ofNat 8 (k.val % 8) : Fin 8) = ⟨k.val % 8, by omega⟩ from Fin.ext (by simp [Fin.ofNat]),
      show (Fin.ofNat 128 (j.val % 128) : Fin 128) = ⟨j.val % 128, by omega⟩ from Fin.ext (by simp [Fin.ofNat])]
  unfold tileV
  by_cases hc : j.val < 128
  · refine (concatenate_pair_apply_left (t := S256x256) (s₁ := S256x128) (s₂ := S256x128) 1 _ _ _ (ix2 k j) rfl (ix2 k ⟨j.val % 128, by omega⟩) ?_).trans ?_
    · intro b; fin_cases b
      · rfl
      · show j.val % 128 = j.val; omega
    · exact key 0 (by omega) (by omega) (by omega)
  · refine (concatenate_pair_apply_right (t := S256x256) (s₁ := S256x128) (s₂ := S256x128) 1 _ _ _ (ix2 k j) rfl rfl (ix2 k ⟨j.val % 128, by omega⟩) ?_ ?_).trans ?_
    · intro b hb; fin_cases b
      · rfl
      · exact absurd rfl hb
    · show j.val % 128 + 128 = j.val; omega
    · exact key 1 (by omega) (by omega) (by omega)

/-- A chunk of the activations, at an element. -/
theorem sliceV_apply (k : Nat) (hk : k < 24) (t j : Fin 128) :
    sliceV c s6 k hk (ix2 t j) = xsM.view.read (Elt Ideal) s6 (ix3 (Fin.ofNat 24 k) t j) := by
  unfold sliceV
  rw [shapeCast_dropUnit_apply, View.readAt_apply]
  refine congrArg (xsM.view.read (Elt Ideal) s6) ?_
  funext a
  fin_cases a
  · apply Fin.ext; change k + 1 * 0 = k % 24; omega
  · apply Fin.ext; change 0 + 1 * t.val = t.val; omega
  · apply Fin.ext; change 0 + 1 * j.val = j.val; omega

/-- The activations of a super-block, at an element. -/
theorem lhsV_apply (n : Nat) (hn : n < 12) (t : Fin 128) (k : Fin 256) :
    lhsV c s6 n hn (ix2 t k) = xsM.view.read (Elt Ideal) s6 (ix3 (Fin.ofNat 24 (2 * n + k.val / 128)) t (Fin.ofNat 128 (k.val % 128))) := by
  have hk := k.isLt
  have key : ∀ h, h < 2 → (hu : 2 * n + h < 24) → k.val / 128 = h → sliceV c s6 (2 * n + h) hu (ix2 t ⟨k.val % 128, by omega⟩)
      = xsM.view.read (Elt Ideal) s6 (ix3 (Fin.ofNat 24 (2 * n + k.val / 128)) t (Fin.ofNat 128 (k.val % 128))) := by
    rintro h hh hu rfl
    rw [sliceV_apply, show (Fin.ofNat 128 (k.val % 128) : Fin 128) = ⟨k.val % 128, by omega⟩ from Fin.ext (by simp [Fin.ofNat])]
  unfold lhsV
  by_cases hc : k.val < 128
  · refine (concatenate_pair_apply_left (t := S128x256) (s₁ := S128x128) (s₂ := S128x128) 1 _ _ _ (ix2 t k) rfl (ix2 t ⟨k.val % 128, by omega⟩) ?_).trans ?_
    · intro b; fin_cases b
      · rfl
      · show k.val % 128 = k.val; omega
    · exact key 0 (by omega) (by omega) (by omega)
  · refine (concatenate_pair_apply_right (t := S128x256) (s₁ := S128x128) (s₂ := S128x128) 1 _ _ _ (ix2 t k) rfl rfl (ix2 t ⟨k.val % 128, by omega⟩) ?_ ?_).trans ?_
    · intro b hb; fin_cases b
      · rfl
      · exact absurd rfl hb
    · show k.val % 128 + 128 = k.val; omega
    · exact key 1 (by omega) (by omega) (by omega)

/-- The two spellings of an index of two coordinates agree. -/
theorem pair_eq {a b : Nat} (x : Fin a) (y : Fin b) : Shape.pair x y = ix2 x y := by
  funext i; fin_cases i <;> rfl

/-- A pass, as a sum over the 256 columns. -/
theorem pass_apply (lhs : S128x256.Idx → EReal) (rhs : S256x256.Idx → EReal) (t : Fin 128) (j : Fin 256) :
    Ideal.mxuPass (DotDims.plain 128 256 256) lhs rhs (ix2 t j) = ∑ k : Fin 256, lhs (ix2 t k) * rhs (ix2 k j) := by
  unfold Ideal.mxuPass
  rw [← Equiv.sum_comp (DotDims.plain 128 256 256).contr.rowMajor.symm, ← Equiv.sum_comp (finCongr (LawUnitPlain.plain_contr_numel 128 256 256))]
  refine Finset.sum_congr rfl fun m _ => ?_
  have e1 := LawUnitPlain.plain_lhsIdx 128 256 256 t j m (finCongr (LawUnitPlain.plain_contr_numel 128 256 256) m) rfl
  have e2 := LawUnitPlain.plain_rhsIdx 128 256 256 t j m (finCongr (LawUnitPlain.plain_contr_numel 128 256 256) m) rfl
  exact congrArg₂ (· * ·) (congrArg lhs ((congrArg (fun y => (DotDims.plain 128 256 256).lhsIdx y _) (pair_eq t j)).symm.trans (e1.trans (pair_eq _ _)))) (congrArg rhs ((congrArg (fun y => (DotDims.plain 128 256 256).rhsIdx y _) (pair_eq t j)).symm.trans (e2.trans (pair_eq _ _))))

/-- One super-block's product, zero past the last. -/
def passV (k : Nat) (i : S128x256.Idx) : EReal :=
  if h : k < 12 then Ideal.mxuPass (DotDims.plain 128 256 256) (lhsV c s6 k h) (tileV c s7 s8 s9 k h) i else 0

/-- After `n` super-blocks each unit holds the sum of those it was given. -/
theorem chain_inv : ∀ (n : Nat) (hn : n ≤ 12),
    (∀ q, (chain c s6 s7 s8 s9 n hn).reg q 0 = none)
    ∧ (∀ q : Fin 2, (∀ r : Fin 128, (chain c s6 s7 s8 s9 n hn).live q (Mxu.row fits_0_128 r) = true)
        ∨ (∀ r : Fin 128, (chain c s6 s7 s8 s9 n hn).live q (Mxu.row fits_0_128 r) = false) ∧ n ≤ q.val)
    ∧ ∀ (q : Fin 2) (i : S128x256.Idx), (chain c s6 s7 s8 s9 n hn).read q 0 fits_0_128 i
        = ∑ k ∈ Finset.range n, if k % 2 = q.val then passV c s6 s7 s8 s9 k i else 0
  | 0, _ => ⟨fun q => rfl, fun q => .inr ⟨fun r => rfl, Nat.zero_le _⟩, fun q i => by
      simp [chain, constant]⟩
  | n + 1, hn => by
    obtain ⟨h1, h2, h3⟩ := chain_inv n (by omega)
    have hp : ∀ i, passV c s6 s7 s8 s9 n i = Ideal.mxuPass (DotDims.plain 128 256 256) (lhsV c s6 n (by omega)) (tileV c s7 s8 s9 n (by omega)) i :=
      fun i => dif_pos (by omega)
    refine ⟨fun q => ?_, fun q => ?_, fun q i => ?_⟩
    · by_cases hq : q = ⟨n % 2, by omega⟩
      · subst hq; rw [chain, Mxu.reg_accLhs]
      · rw [chain, Mxu.reg_accLhs_ne _ _ _ _ _ _ _ _ (fun h => hq h.1), Mxu.reg_pushed_ne _ _ _ _ _ _ _ (fun h => hq h.1), h1]
    · by_cases hq : q = ⟨n % 2, by omega⟩
      · subst hq; left; intro r; rw [chain, Mxu.live_accLhs_row]
      · have hv : q.val ≠ n % 2 := fun h => hq (Fin.ext h)
        have hl : ∀ r : Fin 128, (chain c s6 s7 s8 s9 (n + 1) hn).live q (Mxu.row fits_0_128 r) = (chain c s6 s7 s8 s9 n (by omega)).live q (Mxu.row fits_0_128 r) := by
          intro r; rw [chain, Mxu.live_accLhs, if_neg (fun h => hq h.1), Mxu.live_pushed]
        rcases h2 q with h | ⟨h, hle⟩
        · exact .inl fun r => (hl r).trans (h r)
        · exact .inr ⟨fun r => (hl r).trans (h r), by omega⟩
    · rw [Finset.sum_range_succ, ← h3 q i]
      by_cases hq : q = ⟨n % 2, by omega⟩
      · subst hq
        rw [if_pos rfl, hp, chain]
        rw [Mxu.read_accLhs]
        simp only [Mxu.staged_eq, Mxu.reg_pushed_of_none _ _ _ _ _ (h1 _), Option.getD_some, Mxu.Staged.pass_false, Mxu.live_pushed, Mxu.read_pushed]
        rcases h2 ⟨n % 2, by omega⟩ with h | ⟨h, hle⟩
        · rw [h (i 0)]; rfl
        · rw [h (i 0), h3, Finset.sum_eq_zero, zero_add]
          · rfl
          · intro k hk
            have := Finset.mem_range.mp hk
            have hle' : n ≤ n % 2 := hle
            rw [if_neg]; show ¬ (k % 2 = n % 2); omega
      · have hv : ¬ (n % 2 = q.val) := fun h => hq (Fin.ext h.symm)
        rw [if_neg hv, add_zero, chain, Mxu.read_accLhs_ne _ _ _ _ _ _ _ _ _ (.inl hq), Mxu.read_pushed]

/-- The block of results a step leaves. -/
theorem outV_apply (y : S128x256.Idx) :
    outV c s6 s7 s8 s9 y = outOf (xsM.view.read (Elt Ideal) s6) (tabM.view.read (Elt Ideal) s7) (codeM.view.read (Elt Ideal) s8) (levM.view.read (Elt Ideal) s9) y := by
  obtain ⟨-, -, h3⟩ := chain_inv c s6 s7 s8 s9 12 le_rfl
  have e : outV c s6 s7 s8 s9 y = (chain c s6 s7 s8 s9 12 le_rfl).read 0 0 fits_0_128 y
      + ((chain c s6 s7 s8 s9 12 le_rfl).pop 0 0 128 fits_0_128).read 1 0 fits_0_128 y := rfl
  rw [e, Mxu.read_pop_ne _ _ _ _ _ _ _ (.inl (by decide)), h3, h3, ← Finset.sum_add_distrib]
  unfold outOf
  refine Finset.sum_congr rfl fun k hk => ?_
  have hk' := Finset.mem_range.mp hk
  have e2 : ((if k % 2 = (0 : Fin 2).val then passV c s6 s7 s8 s9 k y else 0) + if k % 2 = (1 : Fin 2).val then passV c s6 s7 s8 s9 k y else 0) = passV c s6 s7 s8 s9 k y := by
    rcases Nat.mod_two_eq_zero_or_one k with h | h <;> simp [h]
  rw [e2]
  unfold passV term1
  rw [dif_pos hk']
  obtain ⟨t, j, rfl⟩ : ∃ (t : Fin 128) (j : Fin 256), y = ix2 t j := ⟨y 0, y 1, by funext a; fin_cases a <;> rfl⟩
  rw [pass_apply]
  refine Finset.sum_congr rfl fun m _ => ?_
  rw [lhsV_apply, tileV_apply]
  show _ = xsM.view.read (Elt Ideal) s6 (ix3 _ (Fin.ofNat 128 t.val) _) * _
  rw [show (Fin.ofNat 128 t.val : Fin 128) = t from Fin.ext (by simp [Fin.ofNat])]
  rfl

end Sum

end Cert.KernelIdeal.Body

end
-- ==== Proof.Track.lean ====
module

public import proofs.«01_k».proof.Proof.IFrame
public import proofs.«01_k».proof.Proof.Elem
public import proofs.«01_k».proof.Proof.InitElem
public import proofs.«01_k».proof.Proof.Out

@[expose] public section

set_option maxRecDepth 65536

noncomputable section

/-! The run of the kernel with its scratch followed: a step multiplies with the codes and levels the step before left,
    and leaves those of its own block of words. -/

namespace Cert.KernelIdeal.Track

open Cert.KernelIdeal Cert.KernelIdeal.Gen
open Cert.KernelIdeal.Body hiding frame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

section Step

variable (c : Dev nD) (i : grid0.Coords)
    (M1 : Memref sig .tc .vmem S128x3072 .bf16) (h1 : M1.IsWhole) (M2 : Memref sig .tc .vmem S96x1x4x128 .i32) (h2 : M2.IsWhole)
    (M3 : Memref sig .tc .vmem S12x256 .f16) (h3 : M3.IsWhole) (M4 : Memref sig .tc .vmem S8x256 .i8) (h4 : M4.IsWhole)
    (M5 : Memref sig .tc .vmem S128x256 .bf16) (h5 : M5.IsWhole)
    (f1 : Bf (F := Ideal) c M1) (f2 : Bf (F := Ideal) c M2) (f3 : Bf (F := Ideal) c M3) (f4 : Bf (F := Ideal) c M4)

/-- The codes and the levels the body leaves are its stores over what was there. -/
theorem run_stores (s6 : Bf (F := Ideal) c xsM) (s7 : Bf (F := Ideal) c tabM) (s8 : Bf (F := Ideal) c codeM) (s9 : Bf (F := Ideal) c levM) :
    (∃ g, (run c i M1 h1 M2 h2 M3 h3 M4 h4 M5 h5 f1 f2 f3 f4 s6 s7 s8 s9).1.1
        = M5.view.writes (Elt Ideal) g [⟨Rect.unit (s := S128x256) ![0, 0] S128x256.size inb_S128x256_S128x256_0_0, run.sl.r_365 c s6 s7 s8 s9⟩])
    ∧ (∃ g, (run c i M1 h1 M2 h2 M3 h3 M4 h4 M5 h5 f1 f2 f3 f4 s6 s7 s8 s9).1.2.1 = codeM.view.writes (Elt Ideal) g (run.sl.H8_96 c M2 h2 f2 s7))
    ∧ (run c i M1 h1 M2 h2 M3 h3 M4 h4 M5 h5 f1 f2 f3 f4 s6 s7 s8 s9).1.2.2 = levM.view.writes (Elt Ideal) s9 (run.sl.H9_144 c M2 h2 M3 f2 f3) := by
  unfold run
  dsimp only
  exact ⟨⟨_, rfl⟩, ⟨_, rfl⟩, rfl⟩

/-- So are those the first step's preparation leaves. -/
theorem init_stores :
    (∃ g, (initRun c i M1 h1 M2 h2 M3 h3 M4 h4 M5 h5 f1 f4).1.1 = xsM.view.writes (Elt Ideal) g (initRun.sl.H6_24 c M1 f1))
    ∧ (∃ g, (initRun c i M1 h1 M2 h2 M3 h3 M4 h4 M5 h5 f1 f4).1.2.1 = tabM.view.writes (Elt Ideal) g (initRun.sl.H7_3 c M4 f4))
    ∧ (∃ g, (initRun c i M1 h1 M2 h2 M3 h3 M4 h4 M5 h5 f1 f4).1.2.2.1
        = codeM.view.writes (Elt Ideal) g [⟨Rect.unit (s := S24x32x128) ![0, 0, 0] S24x32x128.size inb_S24x32x128_S24x32x128_0_0_0, k0_pay9⟩])
    ∧ ∃ g, (initRun c i M1 h1 M2 h2 M3 h3 M4 h4 M5 h5 f1 f4).1.2.2.2 = levM.view.writes (Elt Ideal) g initRun.sl.H9_1 := by
  unfold initRun
  dsimp only
  exact ⟨⟨_, rfl⟩, ⟨_, rfl⟩, ⟨_, rfl⟩, ⟨_, rfl⟩⟩

/-- One store over a whole buffer leaves what it stored. -/
theorem read_whole_store (g : Bf (F := Ideal) c M5) (inb) (v : S128x256.Idx → EReal) :
    M5.view.read (Elt Ideal) (M5.view.writes (Elt Ideal) g [⟨Rect.unit (s := S128x256) ![0, 0] S128x256.size inb, v⟩]) = v := by
  funext y
  refine View.read_writes_apply_of_pieces (Val := Elt Ideal) (e := .bf16) M5.view g v _ (fun p hp x => ?_) y
    ⟨_, List.mem_singleton_self _, mem_full _ (fun a => by fin_cases a <;> rfl) inb y⟩
  obtain rfl := List.mem_singleton.mp hp
  refine congrArg v (funext fun a => Fin.ext ?_)
  rw [Rect.emb_apply]
  fin_cases a
  · change (x 0).val = 0 + 1 * (x 0).val; omega
  · change (x 1).val = 0 + 1 * (x 1).val; omega

/-- The body at a step whose scratch, after its first conditional, reads `X6 … X9`. -/
theorem step_run (s6 : Bf (F := Ideal) c xsM) (s7 : Bf (F := Ideal) c tabM) (s8 : Bf (F := Ideal) c codeM) (s9 : Bf (F := Ideal) c levM)
    (X6 : S24x128x128.Idx → EReal) (X7 : S3x8x128.Idx → BitVec 32) (X8 : S24x32x128.Idx → BitVec 32) (X9 : S24x72x128.Idx → EReal)
    (e6 : xsM.view.read (Elt Ideal) s6 = X6) (e7 : tabM.view.read (Elt Ideal) s7 = X7) (e8 : codeM.view.read (Elt Ideal) s8 = X8)
    (e9 : levM.view.read (Elt Ideal) s9 = X9) (hX9 : ∀ y : S24x72x128.Idx, ¬ ((y 1).val % 9 < 8 ∧ (y 1).val % 9 % 4 < 3) → X9 y = 0)
    (f5 : Bf (F := Ideal) c M5) (f6 : Bf (F := Ideal) c xsM) (f7 : Bf (F := Ideal) c tabM) (f8 : Bf (F := Ideal) c codeM) (f9 : Bf (F := Ideal) c levM)
    (E : Set ℕ) (Q : PUnit → sProp 𝕄)
    (hprep : ∀ R : Mxu Ideal → sProp 𝕄, iprop(pt c M1 f1 ∗ pt c M4 f4 ∗ pt c xsM f6 ∗ pt c tabM f7 ∗ pt c codeM f8 ∗ pt c levM f9
            ∗ (iprop(pt c M1 f1 ∗ pt c M4 f4 ∗ pt c xsM s6 ∗ pt c tabM s7 ∗ pt c codeM s8 ∗ pt c levM s9) -∗ R Mxu.init))
          ⊢ wp frame (wpE (defs₀ (F := Ideal)) Variants.none c none) E (prepProg i M1 h1 M2 h2 M3 h3 M4 h4 M5 h5 xsM (Memref.isWhole_whole _) tabM (Memref.isWhole_whole _) codeM (Memref.isWhole_whole _) levM (Memref.isWhole_whole _)) R) :
    iprop(pt c M1 f1 ∗ pt c M2 f2 ∗ pt c M3 f3 ∗ pt c M4 f4 ∗ pt c M5 f5 ∗ pt c xsM f6 ∗ pt c tabM f7 ∗ pt c codeM f8 ∗ pt c levM f9
      ∗ (iprop(pt c M1 f1 ∗ pt c M2 f2 ∗ pt c M3 f3 ∗ pt c M4 f4 ∗ (∃ g : Bf (F := Ideal) c M5, ⌜M5.view.read (Elt Ideal) g = outOf X6 X7 X8 X9⌝ ∗ pt c M5 g)
          ∗ owns (c : Thread nD τ) xsM fullShare X6 ∗ owns (c : Thread nD τ) tabM fullShare X7
          ∗ owns (c : Thread nD τ) codeM fullShare (codesOf (M2.view.read (Elt Ideal) f2) X7)
          ∗ owns (c : Thread nD τ) levM fullShare (levelsOf (M2.view.read (Elt Ideal) f2) (M3.view.read (Elt Ideal) f3))) -∗ Q ⟨⟩))
    ⊢ wp frame (wpE (defs₀ (F := Ideal)) Variants.none c none) E
        (cc0_iq2_xxs_matmul i M1 h1 M2 h2 M3 h3 M4 h4 M5 h5 xsM (Memref.isWhole_whole _) tabM (Memref.isWhole_whole _) codeM (Memref.isWhole_whole _) levM (Memref.isWhole_whole _)) Q := by
  obtain ⟨⟨g5, w5⟩, ⟨g8, w8⟩, w9⟩ := run_stores c i M1 h1 M2 h2 M3 h3 M4 h4 M5 h5 f1 f2 f3 f4 s6 s7 s8 s9
  have r5 : M5.view.read (Elt Ideal) (run c i M1 h1 M2 h2 M3 h3 M4 h4 M5 h5 f1 f2 f3 f4 s6 s7 s8 s9).1.1 = outOf X6 X7 X8 X9 := by
    rw [w5, read_whole_store c M5, out_eq]
    funext y
    rw [outV_apply, e6, e7, e8, e9]
  have r8 : codeM.view.read (Elt Ideal) (run c i M1 h1 M2 h2 M3 h3 M4 h4 M5 h5 f1 f2 f3 f4 s6 s7 s8 s9).1.2.1
      = codesOf (M2.view.read (Elt Ideal) f2) X7 := by
    funext y
    rw [w8, read_codes, e7]
  have r9 : levM.view.read (Elt Ideal) (run c i M1 h1 M2 h2 M3 h3 M4 h4 M5 h5 f1 f2 f3 f4 s6 s7 s8 s9).1.2.2
      = levelsOf (M2.view.read (Elt Ideal) f2) (M3.view.read (Elt Ideal) f3) := by
    funext y
    rw [w9]
    exact read_levs c M2 h2 f2 M3 f3 s9 y (fun hc => by rw [e9]; exact hX9 y hc)
  rw [owns_of_whole (F := Ideal) c xsM (Memref.isWhole_whole _), owns_of_whole (F := Ideal) c tabM (Memref.isWhole_whole _),
    owns_of_whole (F := Ideal) c codeM (Memref.isWhole_whole _), owns_of_whole (F := Ideal) c levM (Memref.isWhole_whole _)]
  iintro ⟨H1, H2, H3, H4, H5, H6, H7, H8, H9, Hk⟩
  iapply ((run c i M1 h1 M2 h2 M3 h3 M4 h4 M5 h5 f1 f2 f3 f4 s6 s7 s8 s9).2 f5 f6 f7 f8 f9 E Q hprep)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, H5, H6, H7, H8, H9⟩
  iapply Hk
  isplitl [H1]; · iexact H1
  isplitl [H2]; · iexact H2
  isplitl [H3]; · iexact H3
  isplitl [H4]; · iexact H4
  isplitl [H5]
  · iexists _; isplitr; · ipureintro; exact r5
    iexact H5
  isplitl [H6]
  · iexists _; isplitr; · ipureintro; exact e6
    iexact H6
  isplitl [H7]
  · iexists _; isplitr; · ipureintro; exact e7
    iexact H7
  isplitl [H8]
  · iexists _; isplitr; · ipureintro; exact r8
    iexact H8
  iexists _; isplitr; · ipureintro; exact r9
  iexact H9

end Step

variable (m : (ℓ : Loc nD τ sig) → Buf (Elt Ideal) ℓ) (ρ : Dev nD → PrngReg)

/-- The activations, the words, the scales and the grid as a step's buffers hold them. -/
def xBlk (c : Dev nD) (t : Fin cfg0.N) : S128x3072.Idx → EReal := iblk m c 0 t
def wBlk (c : Dev nD) (t : Fin cfg0.N) : S96x1x4x128.Idx → BitVec 32 := iblk m c 1 t
def dBlk (c : Dev nD) (t : Fin cfg0.N) : S12x256.Idx → EReal := iblk m c 2 t
def gBlk (c : Dev nD) (t : Fin cfg0.N) : S8x256.Idx → BitVec 8 := iblk m c 3 t

/-- The first step, and any step by its number. -/
def step0 : Fin cfg0.N := ⟨0, by show 0 < grid0.N; rw [N_0]; omega⟩
def stepN (n : Nat) : Fin cfg0.N := if h : n < cfg0.N then ⟨n, h⟩ else step0

/-- A step by its number. -/
theorem stepN_val (t : Fin cfg0.N) : stepN t.val = t := by
  unfold stepN; rw [dif_pos t.isLt]

/-- The activations' copy and the tables, from the first step on. -/
def xsSt (c : Dev nD) : S24x128x128.Idx → EReal := xsOf (xBlk m c step0)
def tabSt (c : Dev nD) : S3x8x128.Idx → BitVec 32 := tablesOf (gBlk m c step0)
/-- The codes and the levels before step `n`. -/
def codeSt (c : Dev nD) : Nat → S24x32x128.Idx → BitVec 32
  | 0 => fun _ => 0#32
  | n + 1 => codesOf (wBlk m c (stepN n)) (tabSt m c)
def levSt (c : Dev nD) : Nat → S24x72x128.Idx → EReal
  | 0 => fun _ => 0
  | n + 1 => levelsOf (wBlk m c (stepN n)) (dBlk m c (stepN n))

/-- Rows of the scratch of levels that hold no level are zero. -/
theorem levSt_zero (c : Dev nD) (n : Nat) (y : S24x72x128.Idx) (hy : ¬ ((y 1).val % 9 < 8 ∧ (y 1).val % 9 % 4 < 3)) : levSt m c n y = 0 := by
  cases n with
  | zero => rfl
  | succ n => exact if_neg hy

/-- What the scratch holds before step `n`: anything before the first. -/
def scr (c : Dev nD) : Nat → sProp 𝕄
  | 0 => Pipeline.ΦA spec0 c
  | n + 1 => iprop((owns (c : Thread nD τ) xsM fullShare (xsSt m c) ∗ owns (c : Thread nD τ) tabM fullShare (tabSt m c)
      ∗ owns (c : Thread nD τ) codeM fullShare (codeSt m c (n + 1)) ∗ owns (c : Thread nD τ) levM fullShare (levSt m c (n + 1)))
      ∗ ∃ r, prngReg c r)

/-- The scratch after a step. -/
theorem scr_succ (c : Dev nD) (n : Nat) : scr m c (n + 1) = iprop((owns (c : Thread nD τ) xsM fullShare (xsSt m c) ∗ owns (c : Thread nD τ) tabM fullShare (tabSt m c)
      ∗ owns (c : Thread nD τ) codeM fullShare (codeSt m c (n + 1)) ∗ owns (c : Thread nD τ) levM fullShare (levSt m c (n + 1)))
      ∗ ∃ r, prngReg c r) := rfl

/-- What step `t` leaves in the result's buffer. -/
def outSt (c : Dev nD) (t : Fin cfg0.N) : S128x256.Idx → EReal := outOf (xsSt m c) (tabSt m c) (codeSt m c t.val) (levSt m c t.val)

/-- The proof data of the pipeline. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outSt m c t
  Φ t := scr m c t.val
  q _ := fullShare
  owed _ := 0

/-- The proof data's arrays are those the region finds. -/
theorem A_eq (c : Dev nD) (w : Fin cfg0.W) : (dats m 0 c).A w = V m c (Pipeline.arrRef spec0 w) := by dsimp only [dats]

/-- Window 0's buffer after the body: its block, unchanged. -/
theorem after0_0 (c : Dev nD) (t : Fin cfg0.N) : (dats m 0 c).after 0 t = iblk m c 0 t := by dsimp only [dats]
/-- Window 1's buffer after the body: its block, unchanged. -/
theorem after0_1 (c : Dev nD) (t : Fin cfg0.N) : (dats m 0 c).after 1 t = iblk m c 1 t := by dsimp only [dats]
/-- Window 2's buffer after the body: its block, unchanged. -/
theorem after0_2 (c : Dev nD) (t : Fin cfg0.N) : (dats m 0 c).after 2 t = iblk m c 2 t := by dsimp only [dats]
/-- Window 3's buffer after the body: its block, unchanged. -/
theorem after0_3 (c : Dev nD) (t : Fin cfg0.N) : (dats m 0 c).after 3 t = iblk m c 3 t := by dsimp only [dats]
/-- The result's buffer after the body. -/
theorem after0_4 (c : Dev nD) (t : Fin cfg0.N) : (dats m 0 c).after 4 t = outSt m c t := by dsimp only [dats]

/-- Window 0's buffer before the body: its block. -/
theorem before0_0 (c : Dev nD) (t : Fin cfg0.N) (d) : (dats m 0 c).before 0 t d = iblk m c 0 t :=
  before0_0_of m (dats m 0 c) (A_eq m c 0) (after0_0 m c) t d
/-- Window 1's buffer before the body: its block. -/
theorem before0_1 (c : Dev nD) (t : Fin cfg0.N) (d) : (dats m 0 c).before 1 t d = iblk m c 1 t :=
  before0_1_of m (dats m 0 c) (A_eq m c 1) (after0_1 m c) t d
/-- Window 2's buffer before the body: its block. -/
theorem before0_2 (c : Dev nD) (t : Fin cfg0.N) (d) : (dats m 0 c).before 2 t d = iblk m c 2 t :=
  before0_2_of m (dats m 0 c) (A_eq m c 2) (after0_2 m c) t d
/-- Window 3's buffer before the body: its block. -/
theorem before0_3 (c : Dev nD) (t : Fin cfg0.N) (d) : (dats m 0 c).before 3 t d = iblk m c 3 t :=
  before0_3_of m (dats m 0 c) (A_eq m c 3) (after0_3 m c) t d

/-- The body's first step is step 0. -/
theorem isFirst_iff : ∀ t : Fin cfg0.N, isFirst (grid0.coords t) ↔ t.val = 0 := by decide +kernel

/-- What the body is called with at a point, and what it returns. -/
def bodyPre (c : Dev nD) (t : Fin cfg0.N) : sProp 𝕄 :=
  iprop(scr m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop(scr m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At any point the scratch can be taken so that the first conditional leaves it as stated for that point. -/
theorem scr_prep (c : Dev nD) (t : Fin cfg0.N)
    (M1 : Memref sig .tc .vmem S128x3072 .bf16) (h1 : M1.IsWhole) (M2 : Memref sig .tc .vmem S96x1x4x128 .i32) (h2 : M2.IsWhole)
    (M3 : Memref sig .tc .vmem S12x256 .f16) (h3 : M3.IsWhole) (M4 : Memref sig .tc .vmem S8x256 .i8) (h4 : M4.IsWhole)
    (M5 : Memref sig .tc .vmem S128x256 .bf16) (h5 : M5.IsWhole)
    (f1 : Bf (F := Ideal) c M1) (f4 : Bf (F := Ideal) c M4)
    (e1 : M1.view.read (Elt Ideal) f1 = xBlk m c t) (e4 : M4.view.read (Elt Ideal) f4 = gBlk m c t) :
    scr m c t.val ⊢ iprop(∃ (f6 : Bf (F := Ideal) c xsM) (f7 : Bf (F := Ideal) c tabM) (f8 : Bf (F := Ideal) c codeM) (f9 : Bf (F := Ideal) c levM),
      ⌜∃ (s6 : Bf (F := Ideal) c xsM) (s7 : Bf (F := Ideal) c tabM) (s8 : Bf (F := Ideal) c codeM) (s9 : Bf (F := Ideal) c levM),
        xsM.view.read (Elt Ideal) s6 = xsSt m c ∧ tabM.view.read (Elt Ideal) s7 = tabSt m c ∧ codeM.view.read (Elt Ideal) s8 = codeSt m c t.val
        ∧ levM.view.read (Elt Ideal) s9 = levSt m c t.val
        ∧ ∀ (R : Mxu Ideal → sProp 𝕄), iprop(pt c M1 f1 ∗ pt c M4 f4 ∗ pt c xsM f6 ∗ pt c tabM f7 ∗ pt c codeM f8 ∗ pt c levM f9
            ∗ (iprop(pt c M1 f1 ∗ pt c M4 f4 ∗ pt c xsM s6 ∗ pt c tabM s7 ∗ pt c codeM s8 ∗ pt c levM s9) -∗ R Mxu.init))
          ⊢ wp frame (wpE (defs₀ (F := Ideal)) Variants.none c none) Set.univ (prepProg (grid0.coords t) M1 h1 M2 h2 M3 h3 M4 h4 M5 h5 xsM (Memref.isWhole_whole _) tabM (Memref.isWhole_whole _) codeM (Memref.isWhole_whole _) levM (Memref.isWhole_whole _)) R⌝
      ∗ (pt c xsM f6 ∗ pt c tabM f7 ∗ pt c codeM f8 ∗ pt c levM f9) ∗ ∃ r, prngReg c r) := by
  by_cases ht : t.val = 0
  · obtain rfl : t = step0 := Fin.ext ht
    obtain ⟨⟨g6, w6⟩, ⟨g7, w7⟩, ⟨g8, w8⟩, ⟨g9, w9⟩⟩ := init_stores c (grid0.coords step0) M1 h1 M2 h2 M3 h3 M4 h4 M5 h5 f1 f4
    rw [show scr m c step0.val = iprop(Pipeline.scopedRest spec0 c ∗ ∃ r, prngReg c r) from rfl, scopedRest0_eq]
    iintro ⟨⟨⟨%f6, H6⟩, ⟨%f7, H7⟩, ⟨%f8, H8⟩, ⟨%f9, H9⟩⟩, Hg⟩
    iexists f6; iexists f7; iexists f8; iexists f9
    isplitr
    · ipureintro
      refine ⟨_, _, _, _, ?_, ?_, ?_, ?_, fun R => prep_first c (grid0.coords step0) M1 h1 M2 h2 M3 h3 M4 h4 M5 h5 f1 f4 ((isFirst_iff _).mpr rfl) f6 f7 f8 f9 Set.univ R⟩
      · funext y; rw [w6, read_xs, e1]; rfl
      · funext y; rw [w7, read_tables, e4]; rfl
      · funext y; rw [w8]; exact read_code0 c g8 inb_S24x32x128_S24x32x128_0_0_0 y
      · funext y; rw [w9]; exact (read_lev0 c g9 y).trans Ideal.ofBits_zero_f32
    isplitl [H6 H7 H8 H9]
    · isplitl [H6]; · iexact H6
      isplitl [H7]; · iexact H7
      isplitl [H8]; · iexact H8
      iexact H9
    iexact Hg
  · obtain ⟨n, hn⟩ := Nat.exists_eq_succ_of_ne_zero ht
    rw [hn]
    rw [scr_succ, owns_of_whole (F := Ideal) c xsM (Memref.isWhole_whole _), owns_of_whole (F := Ideal) c tabM (Memref.isWhole_whole _),
      owns_of_whole (F := Ideal) c codeM (Memref.isWhole_whole _), owns_of_whole (F := Ideal) c levM (Memref.isWhole_whole _)]
    iintro ⟨⟨⟨%f6, %e6, H6⟩, ⟨%f7, %e7, H7⟩, ⟨%f8, %e8, H8⟩, ⟨%f9, %e9, H9⟩⟩, Hg⟩
    iexists f6; iexists f7; iexists f8; iexists f9
    isplitr
    · ipureintro
      exact ⟨f6, f7, f8, f9, e6, e7, e8, e9, fun R => prep_later c (grid0.coords t) M1 h1 M2 h2 M3 h3 M4 h4 M5 h5 f1 f4 (fun h => ht ((isFirst_iff _).mp h)) f6 f7 f8 f9 Set.univ R⟩
    isplitl [H6 H7 H8 H9]
    · isplitl [H6]; · iexact H6
      isplitl [H7]; · iexact H7
      isplitl [H8]; · iexact H8
      iexact H9
    iexact Hg

/-- The body at a point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  simp only [owns_of_whole c (st0_0 t) (hstage0_0 ((cfg0.slots t 0).cast nbuf0_0)), owns_of_whole c (st0_1 t) (hstage0_1 ((cfg0.slots t 1).cast nbuf0_1)),
    owns_of_whole c (st0_2 t) (hstage0_2 ((cfg0.slots t 2).cast nbuf0_2)), owns_of_whole c (st0_3 t) (hstage0_3 ((cfg0.slots t 3).cast nbuf0_3)),
    owns_of_whole (F := Ideal) c (st0_4 t) (hstage0_4 ((cfg0.slots t 4).cast nbuf0_4))]
  iintro ⟨Hs, Ho, ⟨%d0, ⟨%f1, %e1, H1⟩⟩, ⟨%d1, ⟨%f2, %e2, H2⟩⟩, ⟨%d2, ⟨%f3, %e3, H3⟩⟩, ⟨%d3, ⟨%f4, %e4, H4⟩⟩, ⟨%d4, ⟨%f5, %e5, H5⟩⟩⟩
  ihave Hs' := (scr_prep m c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) f1 f4 e1 e4) $$ Hs
  icases Hs' with ⟨%f6, %f7, %f8, %f9, %hp, ⟨H6, H7, H8, H9⟩, Hg⟩
  obtain ⟨s6, s7, s8, s9, r6, r7, r8, r9, hprep⟩ := hp
  iapply (step_run c (grid0.coords t) _ _ _ _ _ _ _ _ _ _ f1 f2 f3 f4 s6 s7 s8 s9 _ _ _ _ r6 r7 r8 r9 (levSt_zero m c t.val) f5 f6 f7 f8 f9 Set.univ _ hprep)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, H5, H6, H7, H8, H9⟩
  have hc : codesOf ((st0_1 t).view.read (Elt Ideal) f2) (tabSt m c) = codeSt m c (t.val + 1) := by
    show _ = codesOf (wBlk m c (stepN t.val)) (tabSt m c)
    rw [stepN_val]; exact congrArg (fun X => codesOf X (tabSt m c)) e2
  have hl : levelsOf ((st0_1 t).view.read (Elt Ideal) f2) ((st0_2 t).view.read (Elt Ideal) f3) = levSt m c (t.val + 1) := by
    show _ = levelsOf (wBlk m c (stepN t.val)) (dBlk m c (stepN t.val))
    rw [stepN_val]; exact congrArg₂ levelsOf e2 e3
  isplitl [H6 H7 H8 H9 Hg]
  · rw [scr_succ, ← hc, ← hl]
    isplitl [H6 H7 H8 H9]
    · isplitl [H6]; · iexact H6
      isplitl [H7]; · iexact H7
      isplitl [H8]; · iexact H8
      iexact H9
    iexact Hg
  isplitl [Ho]; · iexact Ho
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  iexact H5

/-- The body obligation. -/
theorem body_obligation (c : Dev nD) :
    BodyObligation (dats m 0 c) (defs₀ (F := Ideal)) Variants.none () Set.univ := fun t => by
  rw [bigSep_W0, bigSep_W0, defs₀_row]
  exact triple_restated (sound_body m c t) rfl .rfl fun _ => .rfl

/-- The scratch at the end, its contents forgotten. -/
theorem scr_last (c : Dev nD) (n : Nat) : scr m c (n + 1) ⊢ Pipeline.ΦA spec0 c := by
  rw [show Pipeline.ΦA spec0 c = iprop(Pipeline.scopedRest spec0 c ∗ ∃ r, prngReg c r) from rfl, scopedRest0_eq]
  rw [scr_succ, owns_of_whole (F := Ideal) c xsM (Memref.isWhole_whole _), owns_of_whole (F := Ideal) c tabM (Memref.isWhole_whole _),
    owns_of_whole (F := Ideal) c codeM (Memref.isWhole_whole _), owns_of_whole (F := Ideal) c levM (Memref.isWhole_whole _)]
  iintro ⟨⟨⟨%f6, %e6, H6⟩, ⟨%f7, %e7, H7⟩, ⟨%f8, %e8, H8⟩, ⟨%f9, %e9, H9⟩⟩, Hg⟩
  isplitl [H6 H7 H8 H9]
  · isplitl [H6]; · iexists _; iexact H6
    isplitl [H7]; · iexists _; iexact H7
    isplitl [H8]; · iexists _; iexact H8
    iexists _; iexact H9
  iexact Hg

-- the launch theorem's implicit arguments are found by unifying its conclusion with this statement
set_option backward.isDefEq.respectTransparency.types false in
/-- Every execution ends, each window's array holding what the proof data say and every semaphore at zero. -/
theorem run_main : θ_run defs (onTc (τ := τ) (main (F := Ideal))) (s₀ m ρ)
      (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun c => scr_last m c 32)

end Cert.KernelIdeal.Track

end
-- ==== Proof.Formula.lean ====
module

public import Idealize.ShloMosaic.Lib.ValueIdx
public import Idealize.ShloMosaic.Lib.Pointwise
public import Idealize.ShloMosaic.PureOps.Ideal

@[expose] public section

noncomputable section

/-! The problem's result as one formula: the sum over the columns of the activations of each activation times the
    weight its words decode to. Positions are natural numbers, taken modulo the extents. -/

namespace Cert.Formula

open Idealize.ShloMosaic

/-- Word `w` of sub-block `s` of row `n`. -/
def qAt (Q : (⟨3, ![8192, 96, 2]⟩ : Shape).Idx → BitVec 32) (n s w : Nat) : BitVec 32 := Q (ix3 (Fin.ofNat 8192 n) (Fin.ofNat 96 s) (Fin.ofNat 2 w))
/-- The scale of super-block `s` of row `n`. -/
def dAt (D : (⟨2, ![8192, 12]⟩ : Shape).Idx → EReal) (n s : Nat) : EReal := D (ix2 (Fin.ofNat 8192 n) (Fin.ofNat 12 s))
/-- The activation at row `t`, column `K`. -/
def xAt (X : (⟨3, ![1, 128, 3072]⟩ : Shape).Idx → EReal) (t K : Nat) : EReal := X (ix3 0 (Fin.ofNat 128 t) (Fin.ofNat 3072 K))
/-- Entry `j` of row `g` of the grid. -/
def gAt (G : (⟨2, ![256, 8]⟩ : Shape).Idx → BitVec 8) (g j : Nat) : BitVec 8 := G (ix2 (Fin.ofNat 256 g) (Fin.ofNat 8 j))

/-- A position taken modulo its extent is itself. -/
theorem ofNat_val {n : Nat} [NeZero n] (a : Fin n) (k : Nat) (h : k = a.val) : Fin.ofNat n k = a := by
  subst h; exact Fin.ext (Nat.mod_eq_of_lt a.isLt)

/-- A word at its coordinates. -/
theorem qAt_of (Q : (⟨3, ![8192, 96, 2]⟩ : Shape).Idx → BitVec 32) (a : Fin 8192) (b : Fin 96) (c : Fin 2) (n s w : Nat) (hn : n = a.val) (hs : s = b.val)
    (hw : w = c.val) : Q (ix3 a b c) = qAt Q n s w := by unfold qAt; rw [ofNat_val a n hn, ofNat_val b s hs, ofNat_val c w hw]

/-- A scale at its coordinates. -/
theorem dAt_of (D : (⟨2, ![8192, 12]⟩ : Shape).Idx → EReal) (a : Fin 8192) (b : Fin 12) (n s : Nat) (hn : n = a.val) (hs : s = b.val) :
    D (ix2 a b) = dAt D n s := by unfold dAt; rw [ofNat_val a n hn, ofNat_val b s hs]

/-- An activation at its coordinates. -/
theorem xAt_of (X : (⟨3, ![1, 128, 3072]⟩ : Shape).Idx → EReal) (z : Fin 1) (a : Fin 128) (b : Fin 3072) (t K : Nat) (ht : t = a.val) (hK : K = b.val) :
    X (ix3 z a b) = xAt X t K := by unfold xAt; rw [ofNat_val a t ht, ofNat_val b K hK, Subsingleton.elim z 0]

/-- An entry of the grid at its coordinates. -/
theorem gAt_of (G : (⟨2, ![256, 8]⟩ : Shape).Idx → BitVec 8) (a : Fin 256) (b : Fin 8) (g j : Nat) (hg : g = a.val) (hj : j = b.val) :
    G (ix2 a b) = gAt G g j := by unfold gAt; rw [ofNat_val a g hg, ofNat_val b j hj]

/-- Whether entry `j` of a field with sign code `c` is negative: bit `j` of the code, its parity appended as an eighth bit. -/
def signBit (c : BitVec 32) (j : Nat) : Bool :=
  (c ||| (IntOp.ctpop c &&& 1#32) <<< 7) &&& (1#32 <<< j) != 0#32

/-- The row number of field `l` in the first word, and its sign code in the second. -/
def gridRow (a : BitVec 32) (l : Nat) : Nat := a.toNat / 2 ^ (8 * l) % 256
def signCode (b : BitVec 32) (l : Nat) : BitVec 32 := BitVec.ofNat 32 (b.toNat / 2 ^ (7 * l) % 128)

/-- A sub-block's scale, from its super-block's and the top four bits of its second word. -/
def scaleOf (d : EReal) (b : BitVec 32) : EReal :=
  d * (Ideal.ofBits .f32 0x3F000000#32 + (((b.toNat / 2 ^ 28 : ℕ) : ℝ) : EReal)) * Ideal.ofBits .f32 0x3E800000#32

/-- The magnitude of a weight: the grid's entry, scaled. -/
def magOf (d : EReal) (b : BitVec 32) (g : BitVec 8) : EReal := scaleOf d b * ((g.toNat : ℝ) : EReal)

/-- The weight at row `n`, column `K`. -/
def weightOf (Q : (⟨3, ![8192, 96, 2]⟩ : Shape).Idx → BitVec 32) (D : (⟨2, ![8192, 12]⟩ : Shape).Idx → EReal)
    (G : (⟨2, ![256, 8]⟩ : Shape).Idx → BitVec 8) (n K : Nat) : EReal :=
  magOf (dAt D n (K / 256)) (qAt Q n (K / 32) 1) (gAt G (gridRow (qAt Q n (K / 32) 0) (K / 8 % 4)) (K % 8))
    * if signBit (signCode (qAt Q n (K / 32) 1) (K / 8 % 4)) (K % 8) then -1 else 1

/-- The result at row `t`, column `n`. -/
def resultOf (X : (⟨3, ![1, 128, 3072]⟩ : Shape).Idx → EReal) (Q : (⟨3, ![8192, 96, 2]⟩ : Shape).Idx → BitVec 32)
    (D : (⟨2, ![8192, 12]⟩ : Shape).Idx → EReal) (G : (⟨2, ![256, 8]⟩ : Shape).Idx → BitVec 8) (t n : Nat) : EReal :=
  ∑ K : Fin 3072, xAt X t K.val * weightOf Q D G n K.val

end Cert.Formula

end
-- ==== Proof.Value.lean ====
module

public import proofs.«01_k».proof.Proof.Track
public import proofs.«01_k».proof.Proof.Formula
public import Idealize.ShloMosaic.Lib.StableHlo.ReadAt

@[expose] public section

set_option maxRecDepth 65536

noncomputable section

/-! The result of the kernel as a function of its arguments. -/

namespace Cert.KernelIdeal.Track

open Cert.KernelIdeal Cert.KernelIdeal.Gen Cert.Formula
open Cert.KernelIdeal.Body hiding frame
open Idealize.ShloMosaic Idealize.ShloMosaic.TcCoe Idealize.SL.Sem

variable (m : (ℓ : Loc nD τ sig) → Buf (Elt Ideal) ℓ) (ρ : Dev nD → PrngReg)

/-- The activations' block is always the whole. -/
theorem index0 : ∀ t : Fin cfg0.N, (cfg0.win 0).index t 0 = 0 ∧ (cfg0.win 0).index t 1 = 0 := by decide +kernel
/-- The words' block: that of the step, the last one repeated. -/
theorem index1 : ∀ t : Fin cfg0.N, (cfg0.win 1).index t 0 = 0 ∧ (cfg0.win 1).index t 1 = min t.val 31
    ∧ (cfg0.win 1).index t 2 = 0 ∧ (cfg0.win 1).index t 3 = 0 := by decide +kernel
/-- The scales' block: that of the step, the last one repeated. -/
theorem index2 : ∀ t : Fin cfg0.N, (cfg0.win 2).index t 0 = 0 ∧ (cfg0.win 2).index t 1 = min t.val 31 := by decide +kernel
/-- The grid's block is always the whole. -/
theorem index3 : ∀ t : Fin cfg0.N, (cfg0.win 3).index t 0 = 0 ∧ (cfg0.win 3).index t 1 = 0 := by decide +kernel
/-- The result's block: that of the step before. -/
theorem index4 : ∀ t : Fin cfg0.N, (cfg0.win 4).index t 0 = 0 ∧ (cfg0.win 4).index t 1 = t.val - 1 := by decide +kernel
/-- Every step but the first writes its block of the result back. -/
theorem flush4 : ∀ t : Fin cfg0.N, (cfg0.win 4).flush t = true ↔ t.val ≠ 0 := by decide +kernel

/-- The kernel's arguments, of one core. -/
def argX (c : Dev nD) : S1x128x3072.Idx → EReal := m ((c : Thread nD τ).loc main_arg0)
def argQ (c : Dev nD) : S8192x96x2.Idx → BitVec 32 := m ((c : Thread nD τ).loc main_arg1)
def argD (c : Dev nD) : S8192x12.Idx → EReal := m ((c : Thread nD τ).loc main_arg2)
def argG (c : Dev nD) : S256x8.Idx → BitVec 8 := m ((c : Thread nD τ).loc main_arg3)

/-- The rearranged words, at an element. -/
theorem V2_apply (c : Dev nD) (i : S96x32x4x128.Idx) :
    V m c main_v2 i = qAt (argQ m c) (((i 1).val * 2 + (i 2).val / 2) * 128 + (i 3).val) (i 0).val ((i 2).val % 2) := by
  unfold V hostOps0
  after_reads_at
  exact qAt_of (argQ m c) _ _ _ _ _ _ rfl rfl rfl

/-- The activations as a matrix, at an element. -/
theorem V3_apply (c : Dev nD) (i : S128x3072.Idx) : V m c main_v3 i = xAt (argX m c) (i 0).val (i 1).val := by
  unfold V hostOps0
  after_reads_at
  exact xAt_of (argX m c) _ _ _ _ _ rfl rfl

/-- The transposed scales, at an element. -/
theorem V4_apply (c : Dev nD) (i : S12x8192.Idx) : V m c main_v4 i = dAt (argD m c) (i 1).val (i 0).val := by
  unfold V hostOps0
  after_reads_at
  exact dAt_of (argD m c) _ _ _ _ rfl rfl

/-- The transposed grid, at an element. -/
theorem V5_apply (c : Dev nD) (i : S8x256.Idx) : V m c main_v5 i = gAt (argG m c) (i 1).val (i 0).val := by
  unfold V hostOps0
  after_reads_at
  exact gAt_of (argG m c) _ _ _ _ rfl rfl

/-- The activations' block, in its array. -/
theorem xBlk_apply (c : Dev nD) (t : Fin cfg0.N) (y : S128x3072.Idx) : xBlk m c t y = V m c main_v3 (ix2 (y 0) (y 1)) := by
  unfold xBlk iblk
  rw [View.read_apply]
  refine congrArg (V m c main_v3) (a₁ := ((cfg0.win 0).blk t).view.emb y) ?_
  obtain ⟨e0, e1⟩ := index0 t
  have h := fun a => (cfg0.win 0).rect_emb_val t y a
  funext a
  apply Fin.ext
  refine (h a).trans ?_
  fin_cases a
  · change (cfg0.win 0).index t 0 * 128 + (y 0).val = (y 0).val; rw [e0]; omega
  · change (cfg0.win 0).index t 1 * 3072 + (y 1).val = (y 1).val; rw [e1]; omega

/-- The grid's block, in its array. -/
theorem gBlk_apply (c : Dev nD) (t : Fin cfg0.N) (y : S8x256.Idx) : gBlk m c t y = V m c main_v5 (ix2 (y 0) (y 1)) := by
  unfold gBlk iblk
  rw [View.read_apply]
  refine congrArg (V m c main_v5) (a₁ := ((cfg0.win 3).blk t).view.emb y) ?_
  obtain ⟨e0, e1⟩ := index3 t
  have h := fun a => (cfg0.win 3).rect_emb_val t y a
  funext a
  apply Fin.ext
  refine (h a).trans ?_
  fin_cases a
  · change (cfg0.win 3).index t 0 * 8 + (y 0).val = (y 0).val; rw [e0]; omega
  · change (cfg0.win 3).index t 1 * 256 + (y 1).val = (y 1).val; rw [e1]; omega

/-- The words' block, in its array. -/
theorem wBlk_apply (c : Dev nD) (t : Fin cfg0.N) (y : S96x1x4x128.Idx) :
    wBlk m c t y = V m c main_v2 (ix4 (y 0) (Fin.ofNat 32 (min t.val 31)) (y 2) (y 3)) := by
  unfold wBlk iblk
  rw [View.read_apply]
  refine congrArg (V m c main_v2) (a₁ := ((cfg0.win 1).blk t).view.emb y) ?_
  obtain ⟨e0, e1, e2, e3⟩ := index1 t
  have h := fun a => (cfg0.win 1).rect_emb_val t y a
  funext a
  apply Fin.ext
  refine (h a).trans ?_
  fin_cases a
  · change (cfg0.win 1).index t 0 * 96 + (y 0).val = (y 0).val; rw [e0]; omega
  · have hy : (y 1).val < 1 := (y 1).isLt
    change (cfg0.win 1).index t 1 * 1 + (y 1).val = min t.val 31 % 32; rw [e1]; omega
  · change (cfg0.win 1).index t 2 * 4 + (y 2).val = (y 2).val; rw [e2]; omega
  · change (cfg0.win 1).index t 3 * 128 + (y 3).val = (y 3).val; rw [e3]; omega

/-- The scales' block, in its array. -/
theorem dBlk_apply (c : Dev nD) (t : Fin cfg0.N) (y : S12x256.Idx) :
    dBlk m c t y = V m c main_v4 (ix2 (y 0) (Fin.ofNat 8192 (256 * min t.val 31 + (y 1).val))) := by
  unfold dBlk iblk
  rw [View.read_apply]
  refine congrArg (V m c main_v4) (a₁ := ((cfg0.win 2).blk t).view.emb y) ?_
  obtain ⟨e0, e1⟩ := index2 t
  have h := fun a => (cfg0.win 2).rect_emb_val t y a
  funext a
  apply Fin.ext
  refine (h a).trans ?_
  fin_cases a
  · change (cfg0.win 2).index t 0 * 12 + (y 0).val = (y 0).val; rw [e0]; omega
  · have hy : (y 1).val < 256 := (y 1).isLt
    change (cfg0.win 2).index t 1 * 256 + (y 1).val = (256 * min t.val 31 + (y 1).val) % 8192; rw [e1]; omega

/-- The number of a step. -/
theorem stepN_lt (b : Nat) (hb : b < 33) : (stepN b).val = b := by
  unfold stepN; rw [dif_pos (by show b < grid0.N; rw [N_0]; exact hb)]

/-- The blocks the step `b` sees, in the arguments' own positions. -/
theorem word_at (c : Dev nD) (b s r j : Nat) (hb : b < 32) (hs : s < 96) (hr : r < 4) (hj : j < 128) :
    wBlk m c (stepN b) (ix4 (Fin.ofNat 96 s) 0 (Fin.ofNat 4 r) (Fin.ofNat 128 j)) = qAt (argQ m c) (256 * b + 128 * (r / 2) + j) s (r % 2) := by
  refine (wBlk_apply m c _ _).trans ((V2_apply m c _).trans ?_)
  change qAt (argQ m c) ((min (stepN b).val 31 % 32 * 2 + r % 4 / 2) * 128 + j % 128) (s % 96) (r % 4 % 2) = _
  rw [stepN_lt b (by omega), Nat.mod_eq_of_lt hs, Nat.mod_eq_of_lt hr, Nat.mod_eq_of_lt hj,
    show (min b 31 % 32 * 2 + r / 2) * 128 + j = 256 * b + 128 * (r / 2) + j by omega]

/-- A scale of a step's block, at the argument. -/
theorem scale_at (c : Dev nD) (b s q : Nat) (hb : b < 32) (hs : s < 12) (hq : q < 256) :
    dBlk m c (stepN b) (ix2 (Fin.ofNat 12 s) (Fin.ofNat 256 q)) = dAt (argD m c) (256 * b + q) s := by
  refine (dBlk_apply m c _ _).trans ((V4_apply m c _).trans ?_)
  change dAt (argD m c) ((256 * min (stepN b).val 31 + q % 256) % 8192) (s % 12) = _
  rw [stepN_lt b (by omega), Nat.mod_eq_of_lt hs, Nat.mod_eq_of_lt hq, show (256 * min b 31 + q) % 8192 = 256 * b + q by omega]

/-- An activation of a step's block, at the argument. -/
theorem x_at (c : Dev nD) (t : Fin cfg0.N) (r : Fin 128) (K : Fin 3072) : xBlk m c t (ix2 r K) = xAt (argX m c) r.val K.val :=
  (xBlk_apply m c _ _).trans (V3_apply m c _)

/-- An entry of the grid's block, at the argument. -/
theorem g_at (c : Dev nD) (t : Fin cfg0.N) (j : Fin 8) (g : Fin 256) : gBlk m c t (ix2 j g) = gAt (argG m c) g.val j.val :=
  (gBlk_apply m c _ _).trans (V5_apply m c _)

/-- There are 33 steps. -/
theorem lt33 (t : Fin cfg0.N) : t.val < 33 := Nat.lt_of_lt_of_eq t.isLt N_0

/-- The result, element by element: step `b + 1` makes the columns of block `b`. -/
def final (c : Dev nD) (i : S128x8192.Idx) : EReal := outSt m c (stepN ((i 1).val / 256 + 1)) (ix2 (i 0) (Fin.ofNat 256 (i 1).val))

/-- Where a step's block lies in the result. -/
theorem emb4 (t : Fin cfg0.N) (y : S128x256.Idx) :
    (((cfg0.win 4).blk t).view.emb y : S128x8192.Idx) = ix2 (y 0) (Fin.ofNat 8192 (256 * (t.val - 1) + (y 1).val)) := by
  obtain ⟨e0, e1⟩ := index4 t
  have h := fun a => (cfg0.win 4).rect_emb_val t y a
  have ht : t.val < 33 := lt33 t
  have hy : (y 1).val < 256 := (y 1).isLt
  funext a
  apply Fin.ext
  refine (h a).trans ?_
  fin_cases a
  · change (cfg0.win 4).index t 0 * 128 + (y 0).val = (y 0).val; rw [e0]; omega
  · change (cfg0.win 4).index t 1 * 256 + (y 1).val = (256 * (t.val - 1) + (y 1).val) % 8192; rw [e1]; omega

/-- The result's array once every step has stored its block. -/
theorem final_eq (c : Dev nD) : ((dats m 0 c).arrAt 4 cfg0.N : S128x8192.Idx → EReal) = final m c := by
  refine (dats m 0 c).arrAt_eq_of_cover 4 (final m c) (fun t hf => ?_) (fun i => ?_)
  · have ht : t.val < 33 := lt33 t
    have h0 := (flush4 t).1 hf
    funext y
    rw [View.read_apply]
    have e : ∀ y : S128x256.Idx, outSt m c t y = final m c (ix2 (y 0) (Fin.ofNat 8192 (256 * (t.val - 1) + (y 1).val))) := by
      intro y
      have hy : (y 1).val < 256 := (y 1).isLt
      unfold final
      change _ = outSt m c (stepN ((256 * (t.val - 1) + (y 1).val) % 8192 / 256 + 1)) (ix2 (y 0) (Fin.ofNat 256 ((256 * (t.val - 1) + (y 1).val) % 8192)))
      rw [show (256 * (t.val - 1) + (y 1).val) % 8192 / 256 + 1 = t.val by omega, stepN_val]
      refine congrArg (outSt m c t) ?_
      funext a
      fin_cases a
      · rfl
      · exact Fin.ext (show (y 1).val = (256 * (t.val - 1) + (y 1).val) % 8192 % 256 by omega)
    refine Eq.trans ?_ ((e y).trans (congrArg (final m c) (emb4 t y).symm))
    rfl
  · have hi : ((i : S128x8192.Idx) 1).val < 8192 := ((i : S128x8192.Idx) 1).isLt
    have hN : ((i : S128x8192.Idx) 1).val / 256 + 1 < cfg0.N := by show _ < grid0.N; rw [N_0]; omega
    obtain ⟨t, ht⟩ : ∃ t : Fin cfg0.N, t.val = ((i : S128x8192.Idx) 1).val / 256 + 1 := ⟨⟨_, hN⟩, rfl⟩
    obtain ⟨y, hy⟩ : ∃ y : S128x256.Idx, (((cfg0.win 4).blk t).view.emb y : S128x8192.Idx) = i := by
      refine ⟨ix2 ((i : S128x8192.Idx) 0) (Fin.ofNat 256 ((i : S128x8192.Idx) 1).val), (emb4 t _).trans ?_⟩
      rw [ht]
      funext a
      fin_cases a
      · rfl
      · exact Fin.ext (show (256 * (((i : S128x8192.Idx) 1).val / 256 + 1 - 1) + ((i : S128x8192.Idx) 1).val % 256) % 8192 = ((i : S128x8192.Idx) 1).val by omega)
    refine ⟨t, (flush4 _).2 (by omega), ?_⟩
    have h := View.emb_mem_set ((cfg0.win 4).blk t).view y
    rw [hy] at h
    exact h

end Cert.KernelIdeal.Track

end
-- ==== Proof.Codes.lean ====
module

public import proofs.«01_k».proof.Proof.Formula
public import proofs.«01_k».proof.Proof.InitElem
public import proofs.«01_k».proof.Proof.Elem

@[expose] public section

set_option maxRecDepth 65536

noncomputable section

/-! The packed codes: eight four-bit entries in a word, each the digit of a grid entry plus four times its sign less the
    entry's number, so that adding the number back gives the level's row. -/

namespace Cert.KernelIdeal.Body

open Cert.KernelIdeal Cert.Formula
open Idealize.ShloMosaic

/-- Eight digits in base sixteen. -/
def base16 (n : Fin 8 → Nat) : Nat :=
  n 0 + 16 * n 1 + 256 * n 2 + 4096 * n 3 + 65536 * n 4 + 1048576 * n 5 + 16777216 * n 6 + 268435456 * n 7

/-- Bits above the `k`-th, joined to bits below it, add. -/
theorem or_high (k a b : Nat) (h : b < 2 ^ k) : b ||| a * 2 ^ k = b + 2 ^ k * a := by
  rw [Nat.or_comm, Nat.mul_comm a, ← Nat.two_pow_add_eq_or_of_lt h, Nat.add_comm]

/-- A value under 16, shifted to place `r`, is that value times `16 ^ r`. -/
theorem shli_toNat (x : BitVec 32) (r : Fin 8) (h : x.toNat < 16) :
    (IntOp.shli .vector x (4#32 * BitVec.ofNat 32 r.val)).toNat = x.toNat * 2 ^ (4 * r.val) := by
  have hr : (4#32 * BitVec.ofNat 32 r.val).toNat = 4 * r.val := by revert r; decide
  unfold IntOp.shli
  rw [if_pos (by rw [hr]; omega), BitVec.shiftLeft_eq', BitVec.toNat_shiftLeft, hr, Nat.shiftLeft_eq, Nat.mod_eq_of_lt]
  fin_cases r <;> simp <;> omega

/-- Four-bit words shifted to their places and or-ed are digits in base sixteen. -/
theorem orRows_toNat (n : Fin 8 → BitVec 32) (h : ∀ r, (n r).toNat < 16) :
    (orRows fun r => IntOp.shli .vector (n r) (4#32 * BitVec.ofNat 32 r.val)).toNat = base16 fun r => (n r).toNat := by
  have h0 := h 0; have h1 := h 1; have h2 := h 2; have h3 := h 3; have h4 := h 4; have h5 := h 5; have h6 := h 6; have h7 := h 7
  unfold orRows base16
  simp only [BitVec.toNat_or, fun r => shli_toNat (n r) r (h r)]
  generalize (n 0).toNat = a0 at *
  generalize (n 1).toNat = a1 at *
  generalize (n 2).toNat = a2 at *
  generalize (n 3).toNat = a3 at *
  generalize (n 4).toNat = a4 at *
  generalize (n 5).toNat = a5 at *
  generalize (n 6).toNat = a6 at *
  generalize (n 7).toNat = a7 at *
  show a0 * 2 ^ 0 ||| a1 * 2 ^ 4 ||| a2 * 2 ^ 8 ||| a3 * 2 ^ 12 ||| a4 * 2 ^ 16 ||| a5 * 2 ^ 20 ||| a6 * 2 ^ 24 ||| a7 * 2 ^ 28 = _
  rw [or_high 4 _ _ (by omega), or_high 8 _ _ (by omega), or_high 12 _ _ (by omega), or_high 16 _ _ (by omega),
    or_high 20 _ _ (by omega), or_high 24 _ _ (by omega), or_high 28 _ _ (by omega)]
  omega

/-- A mask of two bits in every place of four, one place at a time. -/
theorem and_step (a b m : Nat) (h : b < 16) : (16 * a + b) &&& (16 * m + 3) = 16 * (a &&& m) + b % 4 := by
  have e1 : ((16 * a + b) &&& (16 * m + 3)) / 16 = a &&& m := by
    rw [show (16 : Nat) = 2 ^ 4 from rfl, Nat.and_div_two_pow]; congr 1 <;> omega
  have e2 : ((16 * a + b) &&& (16 * m + 3)) % 16 = b % 4 := by
    rw [show (16 : Nat) = 2 ^ 4 from rfl, Nat.and_mod_two_pow, show (2 ^ 4 * a + b) % 2 ^ 4 = b by omega, show (2 ^ 4 * m + 3) % 2 ^ 4 = 2 ^ 2 - 1 by omega,
      Nat.and_two_pow_sub_one_eq_mod]
  omega

/-- Masking keeps the low two bits of every digit. -/
theorem base16_and (n : Fin 8 → Nat) (h : ∀ r, n r < 16) : base16 n &&& 858993459 = base16 fun r => n r % 4 := by
  have h0 := h 0; have h1 := h 1; have h2 := h 2; have h3 := h 3; have h4 := h 4; have h5 := h 5; have h6 := h 6; have h7 := h 7
  unfold base16
  dsimp only
  generalize n 0 = a0 at *
  generalize n 1 = a1 at *
  generalize n 2 = a2 at *
  generalize n 3 = a3 at *
  generalize n 4 = a4 at *
  generalize n 5 = a5 at *
  generalize n 6 = a6 at *
  generalize n 7 = a7 at *
  have e : a0 + 16 * a1 + 256 * a2 + 4096 * a3 + 65536 * a4 + 1048576 * a5 + 16777216 * a6 + 268435456 * a7
      = 16 * (16 * (16 * (16 * (16 * (16 * (16 * (16 * 0 + a7) + a6) + a5) + a4) + a3) + a2) + a1) + a0 := by omega
  rw [e, show 858993459 = 16 * (16 * (16 * (16 * (16 * (16 * (16 * (16 * 0 + 3) + 3) + 3) + 3) + 3) + 3) + 3) + 3 from rfl]
  rw [and_step _ _ _ h0, and_step _ _ _ h1, and_step _ _ _ h2, and_step _ _ _ h3, and_step _ _ _ h4, and_step _ _ _ h5, and_step _ _ _ h6, and_step _ _ _ h7]
  simp only [Nat.and_self]
  omega

/-- Dividing by four first, it keeps the high two. -/
theorem base16_div_and (n : Fin 8 → Nat) (h : ∀ r, n r < 16) : base16 n / 4 &&& 858993459 = base16 fun r => n r / 4 := by
  have h0 := h 0; have h1 := h 1; have h2 := h 2; have h3 := h 3; have h4 := h 4; have h5 := h 5; have h6 := h 6; have h7 := h 7
  have e : base16 n / 4 = base16 ![n 0 / 4 + 4 * (n 1 % 4), n 1 / 4 + 4 * (n 2 % 4), n 2 / 4 + 4 * (n 3 % 4), n 3 / 4 + 4 * (n 4 % 4),
      n 4 / 4 + 4 * (n 5 % 4), n 5 / 4 + 4 * (n 6 % 4), n 6 / 4 + 4 * (n 7 % 4), n 7 / 4] := by
    show _ = (n 0 / 4 + 4 * (n 1 % 4)) + 16 * (n 1 / 4 + 4 * (n 2 % 4)) + 256 * (n 2 / 4 + 4 * (n 3 % 4)) + 4096 * (n 3 / 4 + 4 * (n 4 % 4))
      + 65536 * (n 4 / 4 + 4 * (n 5 % 4)) + 1048576 * (n 5 / 4 + 4 * (n 6 % 4)) + 16777216 * (n 6 / 4 + 4 * (n 7 % 4)) + 268435456 * (n 7 / 4)
    unfold base16; omega
  rw [e, base16_and _ (fun r => by fin_cases r <;> simp <;> omega)]
  unfold base16
  simp
  omega

/-- Adding digits that do not carry, and reading one. -/
theorem base16_add (m s : Fin 8 → Nat) (hm : ∀ r, m r ≤ 3) (hs : ∀ r, s r ≤ 7) (j : Fin 8) :
    (base16 m + base16 s) / 2 ^ (4 * j.val) % 8 = (m j + s j) % 8 ∧ base16 m + base16 s < 2 ^ 32 := by
  have h0 := hm 0; have h1 := hm 1; have h2 := hm 2; have h3 := hm 3; have h4 := hm 4; have h5 := hm 5; have h6 := hm 6; have h7 := hm 7
  have s0 := hs 0; have s1 := hs 1; have s2 := hs 2; have s3 := hs 3; have s4 := hs 4; have s5 := hs 5; have s6 := hs 6; have s7 := hs 7
  unfold base16
  refine ⟨?_, by omega⟩
  fin_cases j <;> simp <;> omega

/-- The sign's place value: four if entry `j` is negative, less `j`, modulo 8. -/
theorem signW_eq : ∀ (c : Fin 128) (j : Fin 8),
    ((4#32 * signW (BitVec.ofNat 32 c.val) (BitVec.ofNat 32 j.val) - BitVec.ofNat 32 j.val) &&& 7#32).toNat
      = ((if signBit (BitVec.ofNat 32 c.val) j.val then 4 else 0) + 8 - j.val) % 8 := by decide +kernel

/-- An entry of the grid is one of the three levels. -/
def isLevel (g : BitVec 8) : Prop := g = 8#8 ∨ g = 25#8 ∨ g = 43#8

/-- A digit is 0, 1 or 2. -/
theorem digitW_lt (g : BitVec 8) : (digitW g).toNat < 3 := by revert g; decide +kernel

/-- Two digits of one place: the second counts four times. -/
theorem pair_toNat (g g' : BitVec 8) : (digitW g ||| IntOp.shli .vector (digitW g') 2#32).toNat = (digitW g).toNat + 4 * (digitW g').toNat := by
  have h := digitW_lt g; have h' := digitW_lt g'
  rw [BitVec.toNat_or]
  unfold IntOp.shli
  rw [if_pos (by decide), BitVec.shiftLeft_eq', BitVec.toNat_shiftLeft, Nat.shiftLeft_eq, Nat.mod_eq_of_lt (by simp; omega)]
  exact or_high 2 _ _ (by omega)

/-- A logical shift right divides. -/
theorem shrui_toNat (x : BitVec 32) (k : Nat) (hk : k < 32) : (IntOp.shrui .vector x (BitVec.ofNat 32 k)).toNat = x.toNat / 2 ^ k := by
  have e : (BitVec.ofNat 32 k).toNat = k := by rw [BitVec.toNat_ofNat]; omega
  unfold IntOp.shrui
  rw [if_pos (by rw [e]; exact hk), BitVec.ushiftRight_eq', BitVec.toNat_ushiftRight, e, Nat.shiftRight_eq_div_pow]

/-- Which half of the grid a row number names: its highest bit, doubled. -/
theorem pick_eq (a : BitVec 32) (l : Nat) (hl : l < 4) :
    IntOp.shrui .vector a (BitVec.ofNat 32 (8 * l + 6)) &&& 2#32 = BitVec.ofNat 32 (2 * (a.toNat / 2 ^ (8 * l) / 128 % 2)) := by
  apply BitVec.eq_of_toNat_eq
  rw [BitVec.toNat_and, shrui_toNat _ _ (by omega), BitVec.toNat_ofNat]
  have e : a.toNat / 2 ^ (8 * l) / 128 = a.toNat / 2 ^ (8 * l + 6) / 2 := by
    rw [pow_add, ← Nat.div_div_eq_div_mul]; omega
  rw [e]
  generalize a.toNat / 2 ^ (8 * l + 6) = x
  have e1 : (x &&& 2) / 2 = x / 2 % 2 := by
    rw [show (2 : Nat) = 2 ^ 1 from rfl, Nat.and_div_two_pow, show (2 ^ 1 / 2 ^ 1 : Nat) = 2 ^ 1 - 1 from rfl, Nat.and_two_pow_sub_one_eq_mod]
  have e2 : (x &&& 2) % 2 = 0 := by
    rw [show (2 : Nat) = 2 ^ 1 from rfl, Nat.and_mod_two_pow, show (2 ^ 1 % 2 ^ 1 : Nat) = 0 from rfl, Nat.and_zero]
  show _ = 2 * (x / 2 % 2) % 2 ^ 32
  change x &&& 2 = _
  omega

/-- Four times `j`, computed in words. -/
theorem four_mul : ∀ j : Fin 8, 4#32 * BitVec.ofNat 32 j.val = BitVec.ofNat 32 (4 * j.val) := by decide

/-- The level's row a code gives at entry `j` of field `l`. -/
theorem row_eq (X4 : S8x256.Idx → BitVec 8) (a b : BitVec 32) (l i : Nat) (hl : l < 4) (j : Fin 8) (q : Fin 128) :
    (IntOp.shrui .vector (code1 (tablesOf X4) a b l i) (tablesOf X4 (ix3 2 j q)) + BitVec.ofNat 32 j.val).toNat % 8
      = (digitW (X4 (ix2 j (Fin.ofNat 256 (gridRow a l))))).toNat + if signBit (signCode b l) j.val then 4 else 0 := by
  have hj := j.isLt
  -- the digits
  have hM : ∃ m : Fin 8 → Nat, (∀ r, m r ≤ 3) ∧ m j = (digitW (X4 (ix2 j (Fin.ofNat 256 (gridRow a l))))).toNat
      ∧ (IntOp.shrui .vector (tablesOf X4 (ix3 0 (Fin.ofNat 8 i) (Fin.ofNat 128 (IntOp.shrui .vector a (BitVec.ofNat 32 (8 * l))).toNat)))
          (IntOp.shrui .vector a (BitVec.ofNat 32 (8 * l + 6)) &&& 2#32) &&& 858993459#32).toNat = base16 m := by
    rw [pick_eq _ _ hl, shrui_toNat _ _ (by omega), BitVec.toNat_and, shrui_toNat _ _ (by omega)]
    have ht : ∀ x : Fin 128, (tablesOf X4 (ix3 0 (Fin.ofNat 8 i) x)).toNat
        = base16 fun r => (digitW (X4 (ix2 r (Fin.ofNat 256 x.val)))).toNat + 4 * (digitW (X4 (ix2 r (Fin.ofNat 256 (128 + x.val))))).toNat := by
      intro x
      refine (orRows_toNat (fun r => digitW (X4 (ix2 r (Fin.ofNat 256 x.val))) ||| IntOp.shli .vector (digitW (X4 (ix2 r (Fin.ofNat 256 (128 + x.val))))) 2#32) (fun r => ?_)).trans ?_
      · rw [pair_toNat]; have := digitW_lt (X4 (ix2 r (Fin.ofNat 256 x.val))); have := digitW_lt (X4 (ix2 r (Fin.ofNat 256 (128 + x.val)))); omega
      · simp only [pair_toNat]
    rw [ht]
    have hlo : ∀ r : Fin 8, (digitW (X4 (ix2 r (Fin.ofNat 256 (a.toNat / 2 ^ (8 * l) % 128))))).toNat < 3 := fun r => digitW_lt _
    have hhi : ∀ r : Fin 8, (digitW (X4 (ix2 r (Fin.ofNat 256 (128 + a.toNat / 2 ^ (8 * l) % 128))))).toNat < 3 := fun r => digitW_lt _
    have hv : (Fin.ofNat 128 (a.toNat / 2 ^ (8 * l))).val = a.toNat / 2 ^ (8 * l) % 128 := rfl
    rw [hv]
    unfold gridRow
    generalize a.toNat / 2 ^ (8 * l) = w at *
    have hn : ∀ r : Fin 8, (digitW (X4 (ix2 r (Fin.ofNat 256 (w % 128))))).toNat + 4 * (digitW (X4 (ix2 r (Fin.ofNat 256 (128 + w % 128))))).toNat < 16 :=
      fun r => by have := hlo r; have := hhi r; omega
    have hw2 : w / 128 % 2 = 0 ∨ w / 128 % 2 = 1 := by omega
    rcases hw2 with hw | hw
    · refine ⟨fun r => ((digitW (X4 (ix2 r (Fin.ofNat 256 (w % 128))))).toNat + 4 * (digitW (X4 (ix2 r (Fin.ofNat 256 (128 + w % 128))))).toNat) % 4, fun r => ?_, ?_, ?_⟩
      · dsimp only; omega
      · have := hlo j; dsimp only
        rw [show (Fin.ofNat 256 (w % 256)) = Fin.ofNat 256 (w % 128) from Fin.ext (by show w % 256 % 256 = w % 128 % 256; omega)]
        omega
      · rw [hw, ← base16_and _ hn]
        show base16 _ / 1 &&& 858993459 = _
        rw [Nat.div_one]
    · refine ⟨fun r => ((digitW (X4 (ix2 r (Fin.ofNat 256 (w % 128))))).toNat + 4 * (digitW (X4 (ix2 r (Fin.ofNat 256 (128 + w % 128))))).toNat) / 4, fun r => ?_, ?_, ?_⟩
      · have := hlo r; have := hhi r; dsimp only; omega
      · have := hlo j; dsimp only
        rw [show (Fin.ofNat 256 (w % 256)) = Fin.ofNat 256 (128 + w % 128) from Fin.ext (by show w % 256 % 256 = (128 + w % 128) % 256; omega)]
        omega
      · rw [hw, ← base16_div_and _ hn]
        rfl
  -- the signs
  have hS : ∃ s : Fin 8 → Nat, (∀ r, s r ≤ 7) ∧ s j = ((if signBit (signCode b l) j.val then 4 else 0) + 8 - j.val) % 8
      ∧ (tablesOf X4 (ix3 1 (Fin.ofNat 8 i) (Fin.ofNat 128 (IntOp.shrui .vector b (BitVec.ofNat 32 (7 * l))).toNat))).toNat = base16 s := by
    rw [shrui_toNat _ _ (by omega)]
    refine ⟨fun r => ((4#32 * signW (BitVec.ofNat 32 (Fin.ofNat 128 (b.toNat / 2 ^ (7 * l))).val) (BitVec.ofNat 32 r.val) - BitVec.ofNat 32 r.val) &&& 7#32).toNat,
      fun r => ?_, ?_, orRows_toNat (fun r => (4#32 * signW (BitVec.ofNat 32 (Fin.ofNat 128 (b.toNat / 2 ^ (7 * l))).val) (BitVec.ofNat 32 r.val) - BitVec.ofNat 32 r.val) &&& 7#32) (fun r => ?_)⟩
    · dsimp only; rw [signW_eq]; omega
    · dsimp only; rw [signW_eq]; rfl
    · rw [signW_eq]; omega
  obtain ⟨m, hm, hmj, em⟩ := hM
  obtain ⟨s, hs, hsj, es⟩ := hS
  obtain ⟨e, hlt⟩ := base16_add m s hm hs j
  have hd := digitW_lt (X4 (ix2 j (Fin.ofNat 256 (gridRow a l))))
  have h2 : tablesOf X4 (ix3 2 j q) = BitVec.ofNat 32 (4 * j.val) := by
    have : tablesOf X4 (ix3 2 j q) = 4#32 * BitVec.ofNat 32 j.val := rfl
    rw [this]; exact four_mul j
  have hc : (code1 (tablesOf X4) a b l i).toNat = base16 m + base16 s := by
    unfold code1
    rw [BitVec.toNat_add, em, es, Nat.mod_eq_of_lt hlt]
  rw [h2, BitVec.toNat_add, shrui_toNat _ _ (by omega), hc, BitVec.toNat_ofNat]
  rw [hmj, hsj] at e
  generalize (base16 m + base16 s) / 2 ^ (4 * j.val) = z at *
  split at e <;> simp_all <;> omega

end Cert.KernelIdeal.Body

end
-- ==== Proof.Weight.lean ====
module

public import proofs.«01_k».proof.Proof.Codes
public import proofs.«01_k».proof.Proof.Out

@[expose] public section

set_option maxRecDepth 65536

noncomputable section

/-! The weight the kernel multiplies with is the weight the words stand for. -/

namespace Cert.KernelIdeal.Body

open Cert.KernelIdeal Cert.Formula
open Idealize.ShloMosaic

/-- The level of an entry's digit is the entry, if that is one of the three levels. -/
theorem level_eq (g : BitVec 8) (h : isLevel g) :
    Ideal.ofBits .f32 (levelBits (Fin.ofNat 3 (digitW g).toNat)) = ((g.toNat : ℝ) : EReal) := by
  rcases h with rfl | rfl | rfl
  · rw [show (digitW 8#8).toNat = 0 by decide +kernel]
    show Ideal.ofBits .f32 0x41000000#32 = ((8 : ℕ) : ℝ)
    simp [Ideal.ofBits, Ideal.ieee]; norm_num; rw [← EReal.coe_mul]; norm_num
  · rw [show (digitW 25#8).toNat = 1 by decide +kernel]
    show Ideal.ofBits .f32 0x41C80000#32 = ((25 : ℕ) : ℝ)
    simp [Ideal.ofBits, Ideal.ieee]; norm_num; rw [← EReal.coe_mul]; norm_num
  · rw [show (digitW 43#8).toNat = 2 by decide +kernel]
    show Ideal.ofBits .f32 0x422C0000#32 = ((43 : ℕ) : ℝ)
    simp [Ideal.ofBits, Ideal.ieee]; norm_num; rw [← EReal.coe_mul]; norm_num

/-- The four highest bits of a word, as a number. -/
theorem top_eq (b : BitVec 32) : FloatOps.sitofp (F := Ideal) .f32 (IntOp.shrui .vector b 28#32) = (((b.toNat / 2 ^ 28 : ℕ) : ℝ) : EReal) := by
  have e := shrui_toNat b 28 (by omega)
  have hb := b.isLt
  have e2 : (IntOp.shrui .vector b (BitVec.ofNat 32 28)).toInt = ((b.toNat / 2 ^ 28 : ℕ) : ℤ) := by
    rw [BitVec.toInt_eq_toNat_of_lt (by rw [e]; omega), e]
  show (((IntOp.shrui .vector b (BitVec.ofNat 32 28)).toInt : ℝ) : EReal) = _
  rw [e2]; norm_cast

/-- A level is the magnitude of the grid entry it stands for. -/
theorem lev1_eq (d : EReal) (b : BitVec 32) (g : BitVec 8) (h : isLevel g) : lev1 d b (Fin.ofNat 3 (digitW g).toNat) = magOf d b g := by
  unfold lev1 magOf scaleOf
  rw [level_eq g h, top_eq, mul_right_comm d]

/-- The weight that the tables, the codes and the levels of a block give is the formula's. -/
theorem weight1_eq (X2 : S96x1x4x128.Idx → BitVec 32) (X3 : S12x256.Idx → EReal) (X4 : S8x256.Idx → BitVec 8) (hX : ∀ y, isLevel (X4 y))
    (sb k n : Nat) (hsb : sb < 12) (hk : k < 256) (hn : n < 256) :
    weight1 (tablesOf X4) (codesOf X2 (tablesOf X4)) (levelsOf X2 X3) sb k n
      = magOf (X3 (ix2 (Fin.ofNat 12 sb) (Fin.ofNat 256 n)))
          (X2 (ix4 (Fin.ofNat 96 (8 * sb + k / 32)) 0 (Fin.ofNat 4 (2 * (n / 128) + 1)) (Fin.ofNat 128 (n % 128))))
          (X4 (ix2 (Fin.ofNat 8 (k % 8)) (Fin.ofNat 256 (gridRow (X2 (ix4 (Fin.ofNat 96 (8 * sb + k / 32)) 0 (Fin.ofNat 4 (2 * (n / 128) + 0)) (Fin.ofNat 128 (n % 128)))) (k / 8 % 4)))))
        * if signBit (signCode (X2 (ix4 (Fin.ofNat 96 (8 * sb + k / 32)) 0 (Fin.ofNat 4 (2 * (n / 128) + 1)) (Fin.ofNat 128 (n % 128)))) (k / 8 % 4)) (k % 8)
          then -1 else 1 := by
  obtain ⟨j, hj⟩ : ∃ j : Fin 8, k % 8 = j.val := ⟨⟨k % 8, by omega⟩, rfl⟩
  obtain ⟨l, hl⟩ : ∃ l, l = k / 8 % 4 := ⟨_, rfl⟩
  obtain ⟨s, hs⟩ : ∃ s, s = k / 32 := ⟨_, rfl⟩
  obtain ⟨u, hu⟩ : ∃ u, u = 2 * sb + n / 128 := ⟨_, rfl⟩
  obtain ⟨q, hq⟩ : ∃ q, q = n % 128 := ⟨_, rfl⟩
  have hs8 : s < 8 := by omega
  have hl4 : l < 4 := by omega
  have hw : ∀ w, X2 (ix4 (Fin.ofNat 96 (8 * sb + s)) 0 (Fin.ofNat 4 (2 * (n / 128) + w)) (Fin.ofNat 128 q)) = word1 X2 u s w q := by
    intro w; unfold word1; rw [show u / 2 = sb by omega, show u % 2 = n / 128 by omega]
  have hd : X3 (ix2 (Fin.ofNat 12 sb) (Fin.ofNat 256 n)) = scale1 X3 u q := by
    unfold scale1; rw [show u / 2 = sb by omega, show 128 * (u % 2) + q = n by omega]
  have hc : codesOf X2 (tablesOf X4) (ix3 (Fin.ofNat 24 u) (Fin.ofNat 32 (8 * l + s)) (Fin.ofNat 128 q))
      = code1 (tablesOf X4) (word1 X2 u s 0 q) (word1 X2 u s 1 q) l s := by
    unfold codesOf
    change code1 _ (word1 X2 (u % 24) ((8 * l + s) % 32 % 8) 0 (q % 128)) (word1 X2 (u % 24) ((8 * l + s) % 32 % 8) 1 (q % 128)) ((8 * l + s) % 32 / 8) ((8 * l + s) % 32 % 8) = _
    rw [show u % 24 = u by omega, show (8 * l + s) % 32 % 8 = s by omega, show q % 128 = q by omega, show (8 * l + s) % 32 / 8 = l by rw [Nat.mod_eq_of_lt (by omega)]; omega]
  unfold weight1
  rw [← hl, ← hs, ← hu, ← hq, hw, hw, hd, hj, ofNat_val j j.val rfl, hc, row_eq X4 _ _ l s (by omega) j]
  generalize hg : X4 (ix2 j (Fin.ofNat 256 (gridRow (word1 X2 u s 0 q) l))) = g
  have hgl : isLevel g := hg ▸ hX _
  have hD := digitW_lt g
  rw [← lev1_eq _ _ g hgl]
  generalize signBit (signCode (word1 X2 u s 1 q) l) j.val = b
  have hlev : ∀ R, R < 8 → R % 4 < 3 → levelsOf X2 X3 (ix3 (Fin.ofNat 24 u) (Fin.ofNat 72 (9 * s + R)) (Fin.ofNat 128 q))
      = if R < 4 then lev1 (scale1 X3 u q) (word1 X2 u s 1 q) (Fin.ofNat 3 (R % 4)) else 0 - lev1 (scale1 X3 u q) (word1 X2 u s 1 q) (Fin.ofNat 3 (R % 4)) := by
    intro R h8 h3
    unfold levelsOf
    change (if (9 * s + R) % 72 % 9 < 8 ∧ (9 * s + R) % 72 % 9 % 4 < 3 then
      if (9 * s + R) % 72 % 9 < 4 then lev1 (scale1 X3 (u % 24) (q % 128)) (word1 X2 (u % 24) ((9 * s + R) % 72 / 9) 1 (q % 128)) (Fin.ofNat 3 ((9 * s + R) % 72 % 9 % 4))
      else 0 - lev1 (scale1 X3 (u % 24) (q % 128)) (word1 X2 (u % 24) ((9 * s + R) % 72 / 9) 1 (q % 128)) (Fin.ofNat 3 ((9 * s + R) % 72 % 9 % 4)) else 0) = _
    rw [show (9 * s + R) % 72 % 9 = R by omega, show (9 * s + R) % 72 / 9 = s by omega, show u % 24 = u by omega, show q % 128 = q by omega, if_pos ⟨h8, h3⟩]
  cases b
  · rw [if_neg (by decide), if_neg (by decide), hlev _ (by omega) (by omega), if_pos (by omega), mul_one]
    rw [show ((digitW g).toNat + 0) % 4 = (digitW g).toNat by omega]
  · rw [if_pos rfl, if_pos rfl, hlev _ (by omega) (by omega), if_neg (by omega), zero_sub]
    rw [show ((digitW g).toNat + 4) % 4 = (digitW g).toNat by omega]
    simp

end Cert.KernelIdeal.Body

end
-- ==== Proof.KValue.lean ====
/- The kernel's result, element by element, is the formula's (Formula.lean): the blocks' sums put in one sum, and the
   weights the steps keep read at the arguments. -/
module

public import proofs.«01_k».proof.Proof.Value
public import proofs.«01_k».proof.Proof.Weight

@[expose] public section

set_option maxRecDepth 65536

noncomputable section

namespace Cert.KernelIdeal.Track

open Idealize.ShloMosaic Idealize.ShloMosaic.TcCoe Idealize.SL.Sem
open Cert.KernelIdeal.Gen Cert.KernelIdeal.Facts₀ Cert.Formula
open Cert.KernelIdeal.Body hiding frame

/-- Twelve sums over 256 positions each are one sum over all 3072. -/
theorem sum_blocks (f : Nat → EReal) : ∑ sb ∈ Finset.range 12, ∑ k : Fin 256, f (256 * sb + k.val) = ∑ K : Fin 3072, f K.val := by
  have h : ∀ N : Nat, ∑ sb ∈ Finset.range N, ∑ k : Fin 256, f (256 * sb + k.val) = ∑ K ∈ Finset.range (256 * N), f K := by
    intro N
    induction N with
    | zero => simp
    | succ N ih =>
      rw [Finset.sum_range_succ, ih, Nat.mul_succ, Finset.sum_range_add, Finset.sum_range (fun k => f (256 * N + k))]
  rw [h 12, Finset.sum_range]

variable (m : (ℓ : Loc nD τ sig) → Buf (Elt Ideal) ℓ) (c : Dev nD)

/-- Every entry of the block of the grid is one of the three levels. -/
theorem isLevel_gBlk (hG : ∀ y, isLevel (argG m c y)) (t : Fin cfg0.N) (y) : isLevel (gBlk m c t y) := by
  rw [gBlk_apply m c t y, V5_apply]
  exact hG _

/-- The weight that step `b + 1` uses for position `256 sb + k` of row `256 b + n`. -/
theorem weight_at (hG : ∀ y, isLevel (argG m c y)) (b sb k n : Nat) (hb : b < 32) (hsb : sb < 12) (hk : k < 256) (hn : n < 256) :
    weight1 (tabSt m c) (codeSt m c (b + 1)) (levSt m c (b + 1)) sb k n
      = weightOf (argQ m c) (argD m c) (argG m c) (256 * b + n) (256 * sb + k) := by
  refine (weight1_eq (wBlk m c (stepN b)) (dBlk m c (stepN b)) (gBlk m c step0) (isLevel_gBlk m c hG step0) sb k n hsb hk hn).trans ?_
  rw [scale_at m c b sb n hb hsb hn,
    word_at m c b (8 * sb + k / 32) (2 * (n / 128) + 1) (n % 128) hb (by omega) (by omega) (by omega),
    word_at m c b (8 * sb + k / 32) (2 * (n / 128) + 0) (n % 128) hb (by omega) (by omega) (by omega),
    g_at]
  unfold weightOf
  rw [show (256 * sb + k) / 256 = sb by omega, show (256 * sb + k) / 32 = 8 * sb + k / 32 by omega,
    show (256 * sb + k) / 8 % 4 = k / 8 % 4 by omega, show (256 * sb + k) % 8 = k % 8 by omega,
    show 256 * b + 128 * ((2 * (n / 128) + 1) / 2) + n % 128 = 256 * b + n by omega,
    show 256 * b + 128 * ((2 * (n / 128) + 0) / 2) + n % 128 = 256 * b + n by omega,
    show (2 * (n / 128) + 1) % 2 = 1 by omega, show (2 * (n / 128) + 0) % 2 = 0 by omega]
  have hg : gridRow (qAt (argQ m c) (256 * b + n) (8 * sb + k / 32) 0) (k / 8 % 4) < 256 := Nat.mod_lt _ (by omega)
  generalize gridRow (qAt (argQ m c) (256 * b + n) (8 * sb + k / 32) 0) (k / 8 % 4) = g at *
  change magOf _ _ (gAt _ (g % 256) (k % 8 % 8)) * _ = _
  rw [Nat.mod_eq_of_lt hg, Nat.mod_mod]

/-- The activation at position `256 sb + k`, as the kernel keeps it. -/
theorem xs_at (sb k t : Nat) (hsb : sb < 12) (hk : k < 256) (ht : t < 128) :
    xsSt m c (ix3 (Fin.ofNat 24 (2 * sb + k / 128)) (Fin.ofNat 128 t) (Fin.ofNat 128 (k % 128))) = xAt (argX m c) t (256 * sb + k) := by
  refine (x_at m c step0 _ _).trans ?_
  change xAt (argX m c) (t % 128) ((128 * ((2 * sb + k / 128) % 24) + k % 128 % 128) % 3072) = _
  rw [show t % 128 = t by omega, show (128 * ((2 * sb + k / 128) % 24) + k % 128 % 128) % 3072 = 256 * sb + k by omega]

/-- THE KERNEL'S RESULT is the formula's, at every element. -/
theorem final_formula (hG : ∀ y, isLevel (argG m c y)) (i : S128x8192.Idx) :
    final m c i = resultOf (argX m c) (argQ m c) (argD m c) (argG m c) (i 0).val (i 1).val := by
  have h0 : (i 0).val < 128 := (i 0).isLt
  have h1 : (i 1).val < 8192 := (i 1).isLt
  have hs : (stepN ((i 1).val / 256 + 1)).val = (i 1).val / 256 + 1 := stepN_lt _ (by omega)
  unfold final outSt
  rw [hs]
  change ∑ sb ∈ Finset.range 12, ∑ k : Fin 256,
    xsSt m c (ix3 (Fin.ofNat 24 (2 * sb + k.val / 128)) (Fin.ofNat 128 (i 0).val) (Fin.ofNat 128 (k.val % 128)))
      * weight1 (tabSt m c) (codeSt m c ((i 1).val / 256 + 1)) (levSt m c ((i 1).val / 256 + 1)) sb k.val ((i 1).val % 256) = _
  unfold resultOf
  rw [← sum_blocks (fun K => xAt (argX m c) (i 0).val K * weightOf (argQ m c) (argD m c) (argG m c) (i 1).val K)]
  refine Finset.sum_congr rfl fun sb hsb => Finset.sum_congr rfl fun k _ => ?_
  have hsb := Finset.mem_range.1 hsb
  rw [xs_at m c sb k.val (i 0).val hsb k.isLt h0,
    weight_at m c hG ((i 1).val / 256) sb k.val ((i 1).val % 256) (by omega) hsb k.isLt (by omega),
    show 256 * ((i 1).val / 256) + (i 1).val % 256 = (i 1).val by omega]

/-- THE KERNEL'S RUN: it ends, its result is `final`, and its arguments are as launched. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v6) = final m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final_eq m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩) (run_main m ρ)

end Cert.KernelIdeal.Track

end
-- ==== Proof.RefWeight.lean ====
module

public import proofs.«01_k».proof.Proof.Gen.ReferenceIdeal.Frame
public import proofs.«01_k».proof.Proof.Formula
public import Idealize.ShloMosaic.Lib.StableHlo.ReadAt
public import Idealize.ShloMosaic.Lib.ValueIdx
public import Idealize.ShloMosaic.PureOps.Ideal

@[expose] public section

set_option maxRecDepth 16384

noncomputable section

/-! The reference's weights, element by element. -/

namespace Cert.ReferenceIdeal.Value

open Cert.ReferenceIdeal Cert.ReferenceIdeal.Gen Cert.Formula
open Idealize.ShloMosaic Idealize.ShloMosaic.TcCoe Idealize.SL.Sem

/-- The row gather, read at an element: the grid at the row the index names, at the element's own entry. -/
theorem gather_at {α : Type} (G : S256x8.Idx → α) (J : IVec S8192x96x4x1 32) (i : S8192x96x4x8.Idx) :
    Host.gather gather_S256x8_S8192x96x4x1_S8192x96x4x8_3_0_n_n_0_3_18 G J i
      = G (ix2 ⟨min (J (ix4 (i 0) (i 1) (i 2) 0)).toInt.toNat 255, by omega⟩ (i 3)) := by
  unfold Host.gather
  congr 1
  funext a
  refine Fin.ext ?_
  show (gather_S256x8_S8192x96x4x1_S8192x96x4x8_3_0_n_n_0_3_18).start i J a + (gather_S256x8_S8192x96x4x1_S8192x96x4x8_3_0_n_n_0_3_18).batchCoord i a
      + (gather_S256x8_S8192x96x4x1_S8192x96x4x8_3_0_n_n_0_3_18).offCoord i a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S256x8_S8192x96x4x1_S8192x96x4x8_3_0_n_n_0_3_18).startIndexMap from List.mem_singleton.mpr rfl)]
    have hsi : (gather_S256x8_S8192x96x4x1_S8192x96x4x8_3_0_n_n_0_3_18).siIdx i ⟨List.idxOf (0 : Fin 2) (gather_S256x8_S8192x96x4x1_S8192x96x4x8_3_0_n_n_0_3_18).startIndexMap,
        List.idxOf_lt_length_iff.2 (List.mem_singleton.mpr rfl)⟩ = ix4 (i 0) (i 1) (i 2) 0 := by
      funext b; refine Fin.ext ?_
      match b with
      | ⟨0, _⟩ => rfl
      | ⟨1, _⟩ => rfl
      | ⟨2, _⟩ => rfl
      | ⟨3, _⟩ => rfl
    rw [hsi]
    rfl
  · rw [GatherDims.batchCoord_eq_zero _ _ _ List.not_mem_nil]
    unfold GatherDims.start GatherDims.offCoord
    rw [dif_neg (by show ¬ (1 : Fin 2) ∈ ([0] : List (Fin 2)); decide),
      dif_pos ((GatherDims.mem_sKept _ _).2 ⟨by show ¬ (1 : Fin 2) ∈ ([0] : List (Fin 2)); decide, List.not_mem_nil⟩), Nat.zero_add]
    rfl

/-- A field of each word: shifted right by `K` times the field's number, masked with `k`. -/
def fieldV (K k : BitVec 32) (A : IVec S8192x96 32) (I4 : IVec S4 32) : IVec S8192x96x4 32 :=
  andi (Host.shrui
      (broadcastInDim S8192x96x4 ![0, 1, 2] bcast_S8192x96x1_S8192x96x4_0_1_2 (broadcastInDim S8192x96x1 ![0, 1] bcast_S8192x96_S8192x96x1_0_1 A))
      (broadcastInDim S8192x96x4 ![0, 1, 2] bcast_S1x1x4_S8192x96x4_0_1_2
        (broadcastInDim S1x1x4 ![2] bcast_S4_S1x1x4_2 (muli (broadcastInDim S4 ![] bcast_S_S4 (constantI S_ 32 K)) I4))))
    (broadcastInDim S8192x96x4 ![] bcast_S_S8192x96x4 (constantI S_ 32 k))

/-- The rows of the grid the words name, a negative number counted from the end. -/
def rowsV (A : IVec S8192x96 32) (I4 : IVec S4 32) : IVec S8192x96x4x1 32 :=
  broadcastInDim S8192x96x4x1 ![0, 1, 2] bcast_S8192x96x4_S8192x96x4x1_0_1_2
    (select (cmpi CmpIPredicate.slt (id (fieldV 8#32 255#32 A I4)) (broadcastInDim S8192x96x4 ![] bcast_S_S8192x96x4 (constantI S_ 32 0#32)))
      (addi (id (fieldV 8#32 255#32 A I4)) (broadcastInDim S8192x96x4 ![] bcast_S_S8192x96x4 (constantI S_ 32 256#32)))
      (id (fieldV 8#32 255#32 A I4)))

/-- The sign patterns: the codes, their parities appended. -/
def patternV (B : IVec S8192x96 32) (I4 : IVec S4 32) : IVec S8192x96x4 32 :=
  ori (fieldV 7#32 127#32 B I4)
    (Host.shli (andi (ctpop (fieldV 7#32 127#32 B I4)) (broadcastInDim S8192x96x4 ![] bcast_S_S8192x96x4 (constantI S_ 32 1#32)))
      (broadcastInDim S8192x96x4 ![] bcast_S_S8192x96x4 (constantI S_ 32 7#32)))

/-- The signs. -/
def signV (B : IVec S8192x96 32) (I4 : IVec S4 32) (P8 : IVec S8 32) : FVec Ideal S8192x96x4x8 .f32 :=
  select
    (cmpi CmpIPredicate.ne
      (andi
        (broadcastInDim S8192x96x4x8 ![0, 1, 2, 3] bcast_S8192x96x4x1_S8192x96x4x8_0_1_2_3
          (broadcastInDim S8192x96x4x1 ![0, 1, 2] bcast_S8192x96x4_S8192x96x4x1_0_1_2 (patternV B I4)))
        (broadcastInDim S8192x96x4x8 ![0, 1, 2, 3] bcast_S1x1x1x8_S8192x96x4x8_0_1_2_3 (broadcastInDim S1x1x1x8 ![3] bcast_S8_S1x1x1x8_3 P8)))
      (broadcastInDim S8192x96x4x8 ![] bcast_S_S8192x96x4x8 (constantI S_ 32 0#32)))
    (broadcastInDim S8192x96x4x8 ![] bcast_S_S8192x96x4x8 (constant S_ FTy.f32 3212836864#32))
    (broadcastInDim S8192x96x4x8 ![] bcast_S_S8192x96x4x8 (constant S_ FTy.f32 1065353216#32))

/-- A field cut out of the words, at an element. -/
theorem fieldV_apply (K k : BitVec 32) (A : IVec S8192x96 32) (I4 : IVec S4 32) (y : S8192x96x4.Idx) :
    fieldV K k A I4 y = IntOp.shrui .host (A (ix2 (y 0) (y 1))) (K * I4 (ix1 (y 2))) &&& k := by
  refine congrArg₂ (fun a b => IntOp.shrui .host a (K * b) &&& k) (congrArg A ?_) (congrArg I4 ?_)
  · funext a; fin_cases a <;> rfl
  · funext a; fin_cases a; rfl

/-- A logical shift right divides. -/
theorem shruiH_toNat (x : BitVec 32) (k : Nat) (hk : k < 32) : (IntOp.shrui .host x (BitVec.ofNat 32 k)).toNat = x.toNat / 2 ^ k := by
  have e : (BitVec.ofNat 32 k).toNat = k := by rw [BitVec.toNat_ofNat]; omega
  unfold IntOp.shrui
  rw [if_pos (by rw [e]; exact hk), BitVec.ushiftRight_eq', BitVec.toNat_ushiftRight, e, Nat.shiftRight_eq_div_pow]

variable (A : IVec S8192x96 32) (I4 : IVec S4 32) (hI : ∀ y, I4 y = BitVec.ofNat 32 (y 0).val) (P8 : IVec S8 32) (hP : ∀ y, P8 y = 1#32 <<< (y 0).val)
include hI

/-- The grid's row that a field names. -/
theorem row_apply (y : S8192x96x4.Idx) : fieldV 8#32 255#32 A I4 y = BitVec.ofNat 32 (gridRow (A (ix2 (y 0) (y 1))) (y 2).val) := by
  have hy : (y 2).val < 4 := (y 2).isLt
  rw [fieldV_apply, hI]
  change IntOp.shrui .host _ (8#32 * BitVec.ofNat 32 (y 2).val) &&& 255#32 = _
  rw [show 8#32 * BitVec.ofNat 32 (y 2).val = BitVec.ofNat 32 (8 * (y 2).val) by rw [← BitVec.ofNat_mul]]
  apply BitVec.eq_of_toNat_eq
  rw [BitVec.toNat_and, shruiH_toNat _ _ (by omega), BitVec.toNat_ofNat]
  unfold gridRow
  rw [show (255 % 2 ^ 32 : Nat) = 2 ^ 8 - 1 from rfl, Nat.and_two_pow_sub_one_eq_mod, BitVec.toNat_ofNat]
  omega

/-- The sign code of a field. -/
theorem code_apply (y : S8192x96x4.Idx) : fieldV 7#32 127#32 A I4 y = signCode (A (ix2 (y 0) (y 1))) (y 2).val := by
  have hy : (y 2).val < 4 := (y 2).isLt
  rw [fieldV_apply, hI]
  change IntOp.shrui .host _ (7#32 * BitVec.ofNat 32 (y 2).val) &&& 127#32 = _
  rw [show 7#32 * BitVec.ofNat 32 (y 2).val = BitVec.ofNat 32 (7 * (y 2).val) by rw [← BitVec.ofNat_mul]]
  apply BitVec.eq_of_toNat_eq
  unfold signCode
  rw [BitVec.toNat_and, shruiH_toNat _ _ (by omega), BitVec.toNat_ofNat]
  rw [show (127 % 2 ^ 32 : Nat) = 2 ^ 7 - 1 from rfl, Nat.and_two_pow_sub_one_eq_mod, BitVec.toNat_ofNat]
  omega

/-- The row number that the gather reads, at an element. -/
theorem rowsV_apply (i : S8192x96x4x8.Idx) :
    rowsV A I4 (ix4 (i 0) (i 1) (i 2) 0) = BitVec.ofNat 32 (gridRow (A (ix2 (i 0) (i 1))) (i 2).val) := by
  have e : rowsV A I4 (ix4 (i 0) (i 1) (i 2) 0) = Scalar.select (IntOp.cmpi .slt (fieldV 8#32 255#32 A I4 (ix3 (i 0) (i 1) (i 2))) 0#32)
      (fieldV 8#32 255#32 A I4 (ix3 (i 0) (i 1) (i 2)) + 256#32) (fieldV 8#32 255#32 A I4 (ix3 (i 0) (i 1) (i 2))) := by
    refine congrArg (fun y => Scalar.select (IntOp.cmpi .slt (fieldV 8#32 255#32 A I4 y) 0#32)
      (fieldV 8#32 255#32 A I4 y + 256#32) (fieldV 8#32 255#32 A I4 y)) ?_
    funext a; fin_cases a <;> rfl
  rw [e, row_apply A I4 hI]
  change Scalar.select (IntOp.cmpi .slt (BitVec.ofNat 32 (gridRow (A (ix2 (i 0) (i 1))) (i 2).val)) 0#32) _ (BitVec.ofNat 32 (gridRow (A (ix2 (i 0) (i 1))) (i 2).val)) = _
  have hr : gridRow (A (ix2 (i 0) (i 1))) (i 2).val < 256 := Nat.mod_lt _ (by omega)
  generalize gridRow (A (ix2 (i 0) (i 1))) (i 2).val = g at *
  have : ∀ g : Fin 256, IntOp.cmpi .slt (BitVec.ofNat 32 g.val) 0#32 = 0#1 := by decide +kernel
  rw [this ⟨g, hr⟩]
  rfl

include hP

/-- The sign, at an element. -/
theorem signV_apply (i : S8192x96x4x8.Idx) :
    signV A I4 P8 i = if signBit (signCode (A (ix2 (i 0) (i 1))) (i 2).val) (i 3).val then -1 else 1 := by
  have e : signV A I4 P8 i = Scalar.select (IntOp.cmpi .ne (patternV A I4 (ix3 (i 0) (i 1) (i 2)) &&& P8 (ix1 (i 3))) 0#32)
      (Ideal.ofBits .f32 3212836864#32) (Ideal.ofBits .f32 1065353216#32) := by
    refine congrArg₂ (fun a b => Scalar.select (IntOp.cmpi .ne (patternV A I4 a &&& P8 b) 0#32) (Ideal.ofBits .f32 3212836864#32) (Ideal.ofBits .f32 1065353216#32)) ?_ ?_
    · funext a; fin_cases a <;> rfl
    · funext a; fin_cases a; rfl
  have hp : patternV A I4 (ix3 (i 0) (i 1) (i 2)) = fieldV 7#32 127#32 A I4 (ix3 (i 0) (i 1) (i 2))
      ||| IntOp.shli .host (IntOp.ctpop (fieldV 7#32 127#32 A I4 (ix3 (i 0) (i 1) (i 2))) &&& 1#32) 7#32 := rfl
  have hs : ∀ x : BitVec 32, IntOp.shli .host x 7#32 = x <<< 7 := fun x => rfl
  have hm : Ideal.ofBits .f32 3212836864#32 = -1 := by simp [Ideal.ofBits, Ideal.ieee]; norm_num; rw [← EReal.coe_mul]; norm_num
  have h1 : Ideal.ofBits .f32 1065353216#32 = 1 := by simp [Ideal.ofBits, Ideal.ieee]; norm_num; rw [← EReal.coe_mul]; norm_num
  rw [e, hp, code_apply A I4 hI, hP, hm, h1, hs]
  change Scalar.select (IntOp.cmpi .ne ((signCode (A (ix2 (i 0) (i 1))) (i 2).val ||| (IntOp.ctpop (signCode (A (ix2 (i 0) (i 1))) (i 2).val) &&& 1#32) <<< 7) &&& 1#32 <<< (i 3).val) 0#32) _ _ = _
  unfold signBit
  generalize ((signCode (A (ix2 (i 0) (i 1))) (i 2).val ||| (IntOp.ctpop (signCode (A (ix2 (i 0) (i 1))) (i 2).val) &&& 1#32) <<< 7) &&& 1#32 <<< (i 3).val) = z
  by_cases hz : z = 0#32
  · subst hz; rfl
  · rw [if_pos (by simpa using hz)]
    unfold Scalar.select IntOp.cmpi
    simp [hz]
    intro h
    exact absurd (by rw [show (z != 0#32) = true by simpa using hz]; rfl) h

omit hI hP

section Stretch

variable (W : Valuation τ sig (Elt Ideal))

/-- What the last stretch of the reference reads: the two words, the fields' numbers, the bits, the scales, the grid. -/
def wordA : IVec S8192x96 32 := W (Proc.devRef .tc main_v1)
def wordB : IVec S8192x96 32 := W (Proc.devRef .tc main_v3)
def fieldN : IVec S4 32 := W (Proc.devRef .tc main_v4)
def bitN : IVec S8 32 := W (Proc.devRef .tc main_v7)
def wide : FVec Ideal S8192x12 .f32 := W (Proc.devRef .tc main_v8)
def gridN : IVec S256x8 8 := W (Proc.devRef .tc main_arg3)

/-- A weight of the reference, by the arrays that its last lines start from. -/
theorem w_at (i : S8192x96x4x8.Idx) :
    StableHlo.after (List.flatten [hostOps1, hostOps1_1, hostOps1_2]) W (Proc.devRef .tc main_v68) i
      = (((wide W (ix2 (i 0) ⟨(i 1).val / 8, by have h : (i 1).val < 96 := (i 1).isLt; omega⟩) : EReal)
          * (Ideal.ofBits .f32 1056964608#32 + FloatOps.uitofp (F := Ideal) .f32 (IntOp.shrui .host
              (wordB W (ix2 (i 0) ⟨(i 1).val / 8 * 8 + (i 1).val % 8, by have h : (i 1).val < 96 := (i 1).isLt; omega⟩)) 28#32))
          * Ideal.ofBits .f32 1048576000#32
          * FloatOps.sitofp (F := Ideal) .f32 (BitVec.setWidth 32 (Host.gather gather_S256x8_S8192x96x4x1_S8192x96x4x8_3_0_n_n_0_3_18
              (gridN W) (rowsV (wordA W) (fieldN W)) i))
          * signV (wordB W) (fieldN W) (bitN W) i : EReal)) := by
  rw [List.flatten_cons, List.flatten_cons, List.flatten_cons, List.flatten_nil, List.append_nil, StableHlo.after_append, StableHlo.after_append]
  after_reads_at
  rfl

def actN : FVec Ideal S1x128x3072 .bf16 := W (Proc.devRef .tc main_arg0)
def weightN : FVec Ideal S8192x96x4x8 .bf16 := StableHlo.after (List.flatten [hostOps1, hostOps1_1, hostOps1_2]) W (Proc.devRef .tc main_v68)
def resultN : FVec Ideal S128x8192 .bf16 := StableHlo.after (List.flatten [hostOps1, hostOps1_1, hostOps1_2]) W (Proc.devRef .tc main_v72)

/-- The reference's result: the product of the activations with the weights, both as matrices. -/
theorem y_eq : resultN W
      = truncf .bf16 (Host.dotGeneral dot_S128x3072_S8192x3072_S128x8192_1_1_0_0_n_n none
          (shapeCast S128x3072 (actN W) shapeCasts_S1x128x3072_S128x3072)
          (shapeCast S8192x3072 (weightN W) shapeCasts_S8192x96x4x8_S8192x3072)) bitsLt_bf16_f32 := by
  unfold resultN weightN
  rw [List.flatten_cons, List.flatten_cons, List.flatten_cons, List.flatten_nil, List.append_nil, StableHlo.after_append, StableHlo.after_append]
  after_reads_simp
  rfl

variable (X : (⟨3, ![1, 128, 3072]⟩ : Shape).Idx → EReal) (Q : (⟨3, ![8192, 96, 2]⟩ : Shape).Idx → BitVec 32)
    (D : (⟨2, ![8192, 12]⟩ : Shape).Idx → EReal) (G : (⟨2, ![256, 8]⟩ : Shape).Idx → BitVec 8)
  (hA : ∀ y, wordA W y = qAt Q (y 0).val (y 1).val 0) (hB : ∀ y, wordB W y = qAt Q (y 0).val (y 1).val 1)
  (hF : ∀ y, fieldN W y = BitVec.ofNat 32 (y 0).val) (hN : ∀ y, bitN W y = 1#32 <<< (y 0).val)
  (hD : ∀ y, wide W y = dAt D (y 0).val (y 1).val) (hG : ∀ y, gridN W y = gAt G (y 0).val (y 1).val)
  (hX : ∀ y, actN W y = xAt X (y 1).val (y 2).val)

include hA hB hF hN hD hG in
/-- A weight of the reference is the formula's. -/
theorem weightN_apply (i : S8192x96x4x8.Idx) :
    weightN W i = weightOf Q D G (i 0).val (32 * (i 1).val + 8 * (i 2).val + (i 3).val) := by
  have h1 : (i 1).val < 96 := (i 1).isLt
  have h2 : (i 2).val < 4 := (i 2).isLt
  have h3 : (i 3).val < 8 := (i 3).isLt
  refine (w_at W i).trans ?_
  unfold weightOf magOf scaleOf
  rw [show (32 * (i 1).val + 8 * (i 2).val + (i 3).val) / 256 = (i 1).val / 8 by omega,
    show (32 * (i 1).val + 8 * (i 2).val + (i 3).val) / 32 = (i 1).val by omega,
    show (32 * (i 1).val + 8 * (i 2).val + (i 3).val) / 8 % 4 = (i 2).val by omega,
    show (32 * (i 1).val + 8 * (i 2).val + (i 3).val) % 8 = (i 3).val by omega]
  refine congrArg₂ (· * ·) (congrArg₂ (· * ·) (congrArg₂ (· * ·) (congrArg₂ (· * ·) ?_ (congrArg (Ideal.ofBits .f32 1056964608#32 + ·) ?_)) rfl) ?_) ?_
  · exact hD _
  · have hb : (wordB W (ix2 (i 0) ⟨(i 1).val / 8 * 8 + (i 1).val % 8, by omega⟩)) = qAt Q (i 0).val (i 1).val 1 := by
      refine (hB _).trans ?_
      show qAt Q (i 0).val ((i 1).val / 8 * 8 + (i 1).val % 8) 1 = _
      rw [show (i 1).val / 8 * 8 + (i 1).val % 8 = (i 1).val by omega]
    show (((IntOp.shrui .host (wordB W (ix2 (i 0) ⟨(i 1).val / 8 * 8 + (i 1).val % 8, _⟩)) (BitVec.ofNat 32 28)).toNat : ℝ) : EReal) = _
    rw [shruiH_toNat _ 28 (by omega), hb]
  · have hr := rowsV_apply (wordA W) (fieldN W) hF i
    have hg : gridRow (wordA W (ix2 (i 0) (i 1))) (i 2).val < 256 := Nat.mod_lt _ (by omega)
    have ha : wordA W (ix2 (i 0) (i 1)) = qAt Q (i 0).val (i 1).val 0 := hA _
    rw [gather_at (gridN W), hG]
    show ((((gAt G (min (rowsV (wordA W) (fieldN W) (ix4 (i 0) (i 1) (i 2) 0)).toInt.toNat 255) (i 3).val).setWidth 32).toInt : ℝ) : EReal) = _
    rw [hr]
    rw [ha] at hg ⊢
    generalize gridRow (qAt Q (i 0).val (i 1).val 0) (i 2).val = g at *
    have e : min (BitVec.ofNat 32 g).toInt.toNat 255 = g := by
      rw [BitVec.toInt_eq_toNat_of_lt (by rw [BitVec.toNat_ofNat]; omega), BitVec.toNat_ofNat]; omega
    rw [e]
    generalize gAt G g (i 3).val = z
    have hz := z.isLt
    rw [BitVec.toInt_eq_toNat_of_lt (by rw [BitVec.toNat_setWidth]; omega), BitVec.toNat_setWidth, Nat.mod_eq_of_lt (by omega)]
    norm_cast
  · have hb : wordB W (ix2 (i 0) (i 1)) = qAt Q (i 0).val (i 1).val 1 := hB _
    refine (signV_apply (wordB W) (fieldN W) hF (bitN W) hN i).trans ?_
    rw [hb]

include hA hB hF hN hD hG hX in
/-- The reference's result is the formula's. -/
theorem resultN_apply (i : S128x8192.Idx) : resultN W i = resultOf X Q D G (i 0).val (i 1).val := by
  rw [y_eq]
  have key (A : FVec Ideal S128x3072 .bf16) (B : FVec Ideal S8192x3072 .bf16) :
      Host.dotGeneral (F := Ideal) (φ₁ := .bf16) (φ₂ := .bf16) dot_S128x3072_S8192x3072_S128x8192_1_1_0_0_n_n none A B i
        = ∑ k, A ((dot_S128x3072_S8192x3072_S128x8192_1_1_0_0_n_n).lhsIdx i k) * B ((dot_S128x3072_S8192x3072_S128x8192_1_1_0_0_n_n).rhsIdx i k) := by
    simp only [Host.dotGeneral]
    exact Ideal.dotGeneral_apply _ _ _ _ _ _
  refine (key _ _).trans ?_
  rw [← Equiv.sum_comp (ValueIdx.contrEquiv1 dot_S128x3072_S8192x3072_S128x8192_1_1_0_0_n_n 3072 rfl rfl).symm]
  unfold resultOf
  refine Finset.sum_congr rfl fun K _ => ?_
  have hK := K.isLt
  have h0 := ValueIdx.contrEquiv1_symm_val dot_S128x3072_S8192x3072_S128x8192_1_1_0_0_n_n 3072 rfl rfl K
  have el : (dot_S128x3072_S8192x3072_S128x8192_1_1_0_0_n_n).lhsIdx i ((ValueIdx.contrEquiv1 dot_S128x3072_S8192x3072_S128x8192_1_1_0_0_n_n 3072 rfl rfl).symm K)
      = ix2 (i 0) K := by
    funext a; apply Fin.ext
    match a with
    | ⟨0, _⟩ => rfl
    | ⟨1, _⟩ => exact h0
  have er : (dot_S128x3072_S8192x3072_S128x8192_1_1_0_0_n_n).rhsIdx i ((ValueIdx.contrEquiv1 dot_S128x3072_S8192x3072_S128x8192_1_1_0_0_n_n 3072 rfl rfl).symm K)
      = ix2 (i 1) K := by
    funext a; apply Fin.ext
    match a with
    | ⟨0, _⟩ => rfl
    | ⟨1, _⟩ => exact h0
  rw [el, er]
  refine congrArg₂ (· * ·) ?_ ?_
  · refine (shapeCast_apply _ _ (ix2 (i 0) K) (ix3 0 (i 0) K) ?_).trans (hX _)
    rw [rowMajor_val3 _ _ _ rfl rfl, rowMajor_val2 _ _ rfl]
    simp [ix2, ix3]
  · refine (shapeCast_apply _ _ (ix2 (i 1) K) (ix4 (i 1) ⟨K.val / 32, by omega⟩ ⟨K.val / 8 % 4, by omega⟩ ⟨K.val % 8, by omega⟩) ?_).trans
      ((weightN_apply W Q D G hA hB hF hN hD hG _).trans ?_)
    · rw [rowMajor_val4 _ _ _ _ rfl rfl rfl, rowMajor_val2 _ _ rfl]
      simp [ix2, ix4]
      omega
    · show weightOf Q D G (i 1).val (32 * (K.val / 32) + 8 * (K.val / 8 % 4) + K.val % 8) = _
      rw [show 32 * (K.val / 32) + 8 * (K.val / 8 % 4) + K.val % 8 = K.val by omega]

end Stretch

end Cert.ReferenceIdeal.Value
end
-- ==== Proof.RefValue.lean ====
/- The reference's result, element by element, is the formula's (Formula.lean), and the reference's run leaves it. -/
module

public import proofs.«01_k».proof.Proof.RefWeight
public import Idealize.ShloMosaic.Lib.Pipeline.ValueKit

@[expose] public section

set_option maxRecDepth 16384

noncomputable section

namespace Cert.ReferenceIdeal.Value

open Cert.ReferenceIdeal Cert.ReferenceIdeal.Gen Cert.Formula
open Idealize.ShloMosaic Idealize.ShloMosaic.TcCoe Idealize.SL.Sem

variable (m : (ℓ : Loc nD τ sig) → Buf (Elt Ideal) ℓ) (ρ : Dev nD → PrngReg) (c : Dev nD)

/-- The four arguments as launched: the activations, the packed words, the scales, the grid. -/
def argX : S1x128x3072.Idx → EReal := m ((c : Thread nD τ).loc main_arg0)
def argQ : S8192x96x2.Idx → BitVec 32 := m ((c : Thread nD τ).loc main_arg1)
def argD : S8192x12.Idx → EReal := m ((c : Thread nD τ).loc main_arg2)
def argG : S256x8.Idx → BitVec 8 := m ((c : Thread nD τ).loc main_arg3)

/-- What the region leaves: the scales' window at its final array, every other buffer as the region found it. -/
def left : Valuation τ sig (Elt Ideal) :=
  Pipeline.withArrays (cfgs 0).spec c (V0 m c) fun w => (dats m 0 c).arrAt w (cfgs 0).N

/-- A buffer that is no window's array is as the region found it. -/
theorem left_of_ne (b : Ref sig .tc) (hb : ∀ w, Pipeline.arrRef spec0 w ≠ b) : left m c (Proc.devRef .tc b) = V m c b :=
  Pipeline.withArrays_of_ne _ c (V0 m c) _ b hb

/-- A block of the window of scales is the whole array. -/
theorem emb0 (t : Fin cfg0.N) (y : S8192x12.Idx) : (((cfg0.win 0).blk t).view.emb y : S8192x12.Idx) = y := by
  have h := fun a => (cfg0.win 0).rect_emb_val t y a
  funext a
  apply Fin.ext
  refine (h a).trans ?_
  fin_cases a
  · change 0 * 8192 + (y 0).val = (y 0).val; omega
  · change 0 * 12 + (y 1).val = (y 1).val; omega

/-- A block of the window of widened scales is the whole array. -/
theorem emb1 (t : Fin cfg0.N) (y : S8192x12.Idx) : (((cfg0.win 1).blk t).view.emb y : S8192x12.Idx) = y := by
  have h := fun a => (cfg0.win 1).rect_emb_val t y a
  funext a
  apply Fin.ext
  refine (h a).trans ?_
  fin_cases a
  · change 0 * 8192 + (y 0).val = (y 0).val; omega
  · change 0 * 12 + (y 1).val = (y 1).val; omega

/-- What the body stores is the block of scales: widening changes no ideal value. -/
theorem out_eq (x : S8192x12.Idx → EReal) : (out0_1 (F := Ideal) x : S8192x12.Idx → EReal) = x := by
  have hz : (![0, 0] : Fin 2 → Nat) = fun _ => 0 := by funext a; fin_cases a <;> rfl
  unfold out0_1
  refine (View.canon_unit_zero (Val := Elt Ideal) (S := S8192x12) hz inb_S8192x12_S8192x12_0_0 _).trans ?_
  have h : View.ld (Val := Elt Ideal) (e' := .f16) x r0_0 = x := View.ld_unit_zero (Val := Elt Ideal) (S := S8192x12) (e := .f16) hz inb_S8192x12_S8192x12_0_0 x
  rw [h]
  rfl

/-- What a point writes back of the widened scales is what the body left. -/
theorem flushed_eq (dat : Pipeline.Dat τ (Elt Ideal) Unit ℕ (UR sig nD τ) ℕ cfg0 c) (t : Fin cfg0.N) (y : S8192x12.Idx) :
    dat.flushed 1 t y = dat.after 1 t y := rfl

/-- The body leaves the scales. -/
theorem after_eq (t : Fin cfg0.N) : ((dats m 0 c).after 1 t : S8192x12.Idx → EReal) = argD m c := by
  refine (after0_1 m c t).trans ((out_eq _).trans ?_)
  funext y
  unfold iblk
  rw [View.read_apply]
  refine (congrArg (V m c main_arg2) (emb0 t y)).trans ?_
  exact congrFun (V_main_arg2 m c) y

/-- The widened scales are the scales. -/
theorem scales_eq : ((dats m 0 c).arrAt 1 cfg0.N : S8192x12.Idx → EReal) = argD m c := by
  have t0 : Fin cfg0.N := ⟨0, by decide⟩
  refine (dats m 0 c).arrAt_eq_of_cover 1 (argD m c) (fun t _ => ?_) (fun i => ?_)
  · funext y
    rw [View.read_apply]
    exact (flushed_eq c (dats m 0 c) t y).trans ((congrFun (after_eq m c t) y).trans (congrArg (argD m c) (emb1 t y).symm))
  · refine ⟨t0, flush0_1 t0, ?_⟩
    have h := View.emb_mem_set ((cfg0.win 1).blk t0).view (i : S8192x12.Idx)
    exact (emb1 t0 i) ▸ h

/-- The first words of the pairs. -/
theorem left_words (y : S8192x96.Idx) : wordA (left m c) y = qAt (argQ m c) (y 0).val (y 1).val 0 := by
  unfold wordA
  rw [left_of_ne m c main_v1 (by decide)]
  unfold V V0
  rw [List.flatten_cons, List.flatten_nil, List.append_nil]
  unfold hostOps0
  after_reads_at
  exact qAt_of (argQ m c) _ _ _ _ _ _ rfl rfl rfl

/-- The second words of the pairs. -/
theorem left_signs (y : S8192x96.Idx) : wordB (left m c) y = qAt (argQ m c) (y 0).val (y 1).val 1 := by
  unfold wordB
  rw [left_of_ne m c main_v3 (by decide)]
  unfold V V0
  rw [List.flatten_cons, List.flatten_nil, List.append_nil]
  unfold hostOps0
  after_reads_at
  exact qAt_of (argQ m c) _ _ _ _ _ _ rfl rfl rfl

/-- The numbers of the four fields. -/
theorem left_fields (y : S4.Idx) : fieldN (left m c) y = BitVec.ofNat 32 (y 0).val := by
  unfold fieldN
  rw [left_of_ne m c main_v4 (by decide)]
  unfold V V0
  rw [List.flatten_cons, List.flatten_nil, List.append_nil]
  unfold hostOps0
  after_reads_at

/-- The eight bits. -/
theorem left_bits (y : S8.Idx) : bitN (left m c) y = 1#32 <<< (y 0).val := by
  have hy : (y 0).val < 8 := (y 0).isLt
  unfold bitN
  rw [left_of_ne m c main_v7 (by decide)]
  unfold V V0
  rw [List.flatten_cons, List.flatten_nil, List.append_nil]
  unfold hostOps0
  after_reads_at
  change IntOp.shli .host 1#32 (BitVec.ofNat 32 (y 0).val) = _
  generalize (y 0).val = k at *
  interval_cases k <;> decide

/-- The widened scales. -/
theorem left_scales (y : S8192x12.Idx) : wide (left m c) y = dAt (argD m c) (y 0).val (y 1).val := by
  have h : wide (left m c) = argD m c :=
    (Pipeline.withArrays_arr (cfgs 0).spec (by decide) c (V0 m c) (fun w => (dats m 0 c).arrAt w (cfgs 0).N) 1).trans (scales_eq m c)
  rw [h]
  refine (congrArg (argD m c) ?_).trans (dAt_of (argD m c) (y 0) (y 1) _ _ rfl rfl)
  funext a
  fin_cases a <;> rfl

/-- The grid. -/
theorem left_grid (y : S256x8.Idx) : gridN (left m c) y = gAt (argG m c) (y 0).val (y 1).val := by
  have h : gridN (left m c) = argG m c := (left_of_ne m c main_arg3 (by decide)).trans (V_main_arg3 m c)
  rw [h]
  refine (congrArg (argG m c) ?_).trans (gAt_of (argG m c) (y 0) (y 1) _ _ rfl rfl)
  funext a
  fin_cases a <;> rfl

/-- The activations. -/
theorem left_act (y : S1x128x3072.Idx) : actN (left m c) y = xAt (argX m c) (y 1).val (y 2).val := by
  have h : actN (left m c) = argX m c := (left_of_ne m c main_arg0 (by decide)).trans (V_main_arg0 m c)
  rw [h]
  refine (congrArg (argX m c) ?_).trans (xAt_of (argX m c) (y 0) (y 1) (y 2) _ _ rfl rfl)
  funext a
  fin_cases a <;> rfl

/-- The result, element by element, as the reference leaves it. -/
def final (i : S128x8192.Idx) : EReal := resultOf (argX m c) (argQ m c) (argD m c) (argG m c) (i 0).val (i 1).val

/-- The reference's last lines leave `final`. -/
theorem final_eq : Pipeline.afterTail₀ cfgs (dats m) 0 (V0 m) [hostOps1, hostOps1_1, hostOps1_2] c main_v72 = final m c :=
  funext fun i => resultN_apply (left m c) (argX m c) (argQ m c) (argD m c) (argG m c) (left_words m c) (left_signs m c) (left_fields m c)
    (left_bits m c) (left_scales m c) (left_grid m c) (left_act m c) i

/-- THE REFERENCE'S RUN: it ends, its result is the formula's at every element, and its arguments are as launched. -/
theorem run : θ_run (defs (F := Ideal)) (onTc (τ := τ) (main (F := Ideal))) ⟨m, fun _ => 0, ρ⟩ (fun r => ∀ c : Dev nD,
      r.2.mem ((c.tc : Thread nD τ).loc main_v72) = final m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v72 (Pipeline.mem_restRefs_of main_v72 (by decide) (by decide))).trans (final_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 0).trans (((dats m 0 c).arrAt_in 0 rfl _).trans ((A_eq m c 0).trans (V_main_arg2 m c))),
      (((h c).2 main_arg3 (Pipeline.mem_restRefs_of main_arg3 (by decide) (by decide))).trans (W_main_arg3 m (dats m) c))⟩) (run_main m ρ)

end Cert.ReferenceIdeal.Value

end
-- ==== Proof.lean ====
module

public import proofs.«01_k».proof.Defs
public import proofs.«01_k».proof.Proof.KernelFrame
public import proofs.«01_k».proof.Proof.IFrame
public import proofs.«01_k».proof.Proof.KValue
public import proofs.«01_k».proof.Proof.RefValue
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame

@[expose] public section

noncomputable section

namespace Cert.Proof

open Idealize.ShloMosaic Idealize.ShloMosaic.TcCoe Idealize.SL.Sem

/-- The precondition's one side condition: a scalar broadcasts to the grid's shape. -/
theorem levelFacts : Cert.Pre_grid_levels.Facts := ⟨by decide⟩

/-- An element of the precondition is one exactly when the grid's entry is one of the three levels. -/
theorem isLevel_of (g : BitVec 8)
    (h : IntOp.ori (IntOp.ori (IntOp.cmpi .eq g 8#8) (IntOp.cmpi .eq g 25#8)) (IntOp.cmpi .eq g 43#8) = 1#1) : Cert.KernelIdeal.Body.isLevel g := by
  revert g
  unfold Cert.KernelIdeal.Body.isLevel
  decide

/-- Under the precondition every entry of the grid is one of the three levels. -/
theorem levels (m : (ℓ : Loc Cert.KernelIdeal.nD Cert.KernelIdeal.τ Cert.KernelIdeal.sig) → Buf (Elt Ideal) ℓ)
    (h : Cert.Pre_KernelIdeal_grid_levels (hPre_grid_levels := levelFacts) m) (c : Dev Cert.KernelIdeal.nD) (y) :
    Cert.KernelIdeal.Body.isLevel (Cert.KernelIdeal.Track.argG m c y) :=
  isLevel_of _ (congrFun (h c) y)

/-- On equal arguments the two programs leave equal results: each is the formula's. -/
theorem algebraic : Cert.algebraic_KernelIdeal_ReferenceIdeal_pre_grid_levels (hKernelIdeal := Cert.KernelIdeal.Gen.facts)
    (hReferenceIdeal := Cert.ReferenceIdeal.Gen.facts) (hPre_grid_levels := levelFacts) := by
  intro m g m' g' hpre hargs
  refine ⟨fun c => Cert.KernelIdeal.Track.final m c, Cert.KernelIdeal.Track.run m g, ?_⟩
  refine (θ_run _ _ _).mono (fun _ h c => ⟨(h c).1.trans ?_, (h c).2⟩) (Cert.ReferenceIdeal.Value.run m' g')
  obtain ⟨h0, h1, h2, h3⟩ := hargs c
  have e0 : Cert.ReferenceIdeal.Value.argX m' c = Cert.KernelIdeal.Track.argX m c := h0
  have e1 : Cert.ReferenceIdeal.Value.argQ m' c = Cert.KernelIdeal.Track.argQ m c := h1
  have e2 : Cert.ReferenceIdeal.Value.argD m' c = Cert.KernelIdeal.Track.argD m c := h2
  have e3 : Cert.ReferenceIdeal.Value.argG m' c = Cert.KernelIdeal.Track.argG m c := h3
  refine funext fun i => Eq.trans ?_ (Cert.KernelIdeal.Track.final_formula m c (levels m hpre c) i).symm
  unfold Cert.ReferenceIdeal.Value.final
  rw [e0, e1, e2, e3]

theorem claim : Cert.Claim := ⟨Cert.Kernel.Gen.facts, Cert.KernelIdeal.Gen.facts, Cert.ReferenceIdeal.Gen.facts, levelFacts,
  fun m g _ => Cert.Kernel.Body.frame m g,
  fun m g _ => Cert.KernelIdeal.Body.frame m g, fun m g _ => Cert.KernelIdeal.Body.frame m g,
  fun m g _ => Cert.ReferenceIdeal.Gen.frame m g, fun m g _ => Cert.ReferenceIdeal.Gen.frame m g,
  trivial, algebraic⟩

end Cert.Proof

end
